-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048x128 : Shape := ⟨3, ![64, 2048, 128]⟩
abbrev S1024x128 : Shape := ⟨2, ![1024, 128]⟩
abbrev S1024x256 : Shape := ⟨2, ![1024, 256]⟩
abbrev S1024 : Shape := ⟨1, ![1024]⟩
abbrev S64x256 : Shape := ⟨2, ![64, 256]⟩
abbrev S128x1024 : Shape := ⟨2, ![128, 1024]⟩
abbrev S256x1024 : Shape := ⟨2, ![256, 1024]⟩
abbrev S1x1024 : Shape := ⟨2, ![1, 1024]⟩
abbrev S64x2048x256 : Shape := ⟨3, ![64, 2048, 256]⟩
abbrev S2x64x256 : Shape := ⟨3, ![2, 64, 256]⟩
abbrev S64x32x128 : Shape := ⟨3, ![64, 32, 128]⟩
abbrev S64x32x256 : Shape := ⟨3, ![64, 32, 256]⟩
abbrev S32x64x1024 : Shape := ⟨3, ![32, 64, 1024]⟩
abbrev S2x32x64x256 : Shape := ⟨4, ![2, 32, 64, 256]⟩
abbrev S32x64x256 : Shape := ⟨3, ![32, 64, 256]⟩
abbrev S1x32x64x256 : Shape := ⟨4, ![1, 32, 64, 256]⟩
abbrev S2048x256 : Shape := ⟨2, ![2048, 256]⟩
abbrev S2048x1024 : Shape := ⟨2, ![2048, 1024]⟩
abbrev S32x64x128 : Shape := ⟨3, ![32, 64, 128]⟩
abbrev S2048x128 : Shape := ⟨2, ![2048, 128]⟩
abbrev S1x64x1024 : Shape := ⟨3, ![1, 64, 1024]⟩
abbrev S64x1024 : Shape := ⟨2, ![64, 1024]⟩
abbrev S1x1x64x256 : Shape := ⟨4, ![1, 1, 64, 256]⟩
abbrev S1x64x256 : Shape := ⟨3, ![1, 64, 256]⟩

abbrev nBuf : Space → Nat
  | .hbm => 22
  | .vmem => 22
  | .smem => 0
  | _ => 0

abbrev bufTy : (tb : Table) → Fin (tcTables nBuf tb) → BufTy
  | .hbm, ⟨0, _⟩ => ⟨S64x2048x128, .f32⟩
  | .hbm, ⟨1, _⟩ => ⟨S1024x128, .f32⟩
  | .hbm, ⟨2, _⟩ => ⟨S1024x256, .f32⟩
  | .hbm, ⟨3, _⟩ => ⟨S1024, .f32⟩
  | .hbm, ⟨4, _⟩ => ⟨S1024, .f32⟩
  | .hbm, ⟨5, _⟩ => ⟨S1024x256, .f32⟩
  | .hbm, ⟨6, _⟩ => ⟨S1024x256, .f32⟩
  | .hbm, ⟨7, _⟩ => ⟨S1024, .f32⟩
  | .hbm, ⟨8, _⟩ => ⟨S1024, .f32⟩
  | .hbm, ⟨9, _⟩ => ⟨S64x256, .f32⟩
  | .hbm, ⟨10, _⟩ => ⟨S64x256, .f32⟩
  | .hbm, ⟨11, _⟩ => ⟨S128x1024, .f32⟩
  | .hbm, ⟨12, _⟩ => ⟨S256x1024, .f32⟩
  | .hbm, ⟨13, _⟩ => ⟨S1024, .f32⟩
  | .hbm, ⟨14, _⟩ => ⟨S1x1024, .f32⟩
  | .hbm, ⟨15, _⟩ => ⟨S256x1024, .f32⟩
  | .hbm, ⟨16, _⟩ => ⟨S256x1024, .f32⟩
  | .hbm, ⟨17, _⟩ => ⟨S1024, .f32⟩
  | .hbm, ⟨18, _⟩ => ⟨S1x1024, .f32⟩
  | .hbm, ⟨19, _⟩ => ⟨S64x2048x256, .f32⟩
  | .hbm, ⟨20, _⟩ => ⟨S2x64x256, .f32⟩
  | .hbm, ⟨21, _⟩ => ⟨S2x64x256, .f32⟩
  | .local _ .vmem, ⟨0, _⟩ => ⟨S64x32x128, .f32⟩
  | .local _ .vmem, ⟨1, _⟩ => ⟨S64x32x128, .f32⟩
  | .local _ .vmem, ⟨2, _⟩ => ⟨S128x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S64x256, .f32⟩
  | .local _ .vmem, ⟨9, _⟩ => ⟨S64x256, .f32⟩
  | .local _ .vmem, ⟨10, _⟩ => ⟨S64x32x256, .f32⟩
  | .local _ .vmem, ⟨11, _⟩ => ⟨S64x32x256, .f32⟩
  | .local _ .vmem, ⟨12, _⟩ => ⟨S2x64x256, .f32⟩
  | .local _ .vmem, ⟨13, _⟩ => ⟨S2x64x256, .f32⟩
  | .local _ .vmem, ⟨14, _⟩ => ⟨S32x64x1024, .f32⟩
  | .local _ .vmem, ⟨15, _⟩ => ⟨S32x64x1024, .f32⟩
  | .local _ .vmem, ⟨16, _⟩ => ⟨S2x32x64x256, .f32⟩
  | .local _ .vmem, ⟨17, _⟩ => ⟨S32x64x256, .f32⟩
  | .local _ .vmem, ⟨18, _⟩ => ⟨S64x256, .f32⟩
  | .local _ .vmem, ⟨19, _⟩ => ⟨S64x256, .f32⟩
  | .local _ .vmem, ⟨20, _⟩ => ⟨S64x256, .f32⟩
  | .local _ .vmem, ⟨21, _⟩ => ⟨S64x256, .f32⟩
  | _, _ => ⟨S64x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![65], ![false]⟩

def k0_off1 (i : grid0.Coords) : Fin 4 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v24 : Index := Scalar.indexCast v20
  let c0 : Index := 0#32
  let c0_12 : Index := 0#32
  let c0_13 : Index := 0#32
  ![v24.toNat, 0, 0, 0]
def k0_off2 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : Index := Scalar.indexCast v9
  let c0_i32_48 : BitVec 32 := 0#32
  let v101 : Index := Scalar.indexCast c0_i32_48
  let c0_55 : Index := 0#32
  let c0_56 : Index := 0#32
  ![v100.toNat, 0, 0, 0]
def k0_off3 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v147 : Index := Scalar.indexCast v9
  let c1_i32_59 : BitVec 32 := 1#32
  let v148 : Index := Scalar.indexCast c1_i32_59
  let c0_66 : Index := 0#32
  let c0_67 : Index := 0#32
  ![v147.toNat, 1, 0, 0]
def k0_off4 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v194 : Index := Scalar.indexCast v9
  let c2_i32_70 : BitVec 32 := 2#32
  let v195 : Index := Scalar.indexCast c2_i32_70
  let c0_77 : Index := 0#32
  let c0_78 : Index := 0#32
  ![v194.toNat, 2, 0, 0]
def k0_off5 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v241 : Index := Scalar.indexCast v9
  let c3_i32 : BitVec 32 := 3#32
  let v242 : Index := Scalar.indexCast c3_i32
  let c0_87 : Index := 0#32
  let c0_88 : Index := 0#32
  ![v241.toNat, 3, 0, 0]
def k0_off6 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v288 : Index := Scalar.indexCast v9
  let c4_i32 : BitVec 32 := 4#32
  let v289 : Index := Scalar.indexCast c4_i32
  let c0_97 : Index := 0#32
  let c0_98 : Index := 0#32
  ![v288.toNat, 4, 0, 0]
def k0_off7 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v335 : Index := Scalar.indexCast v9
  let c5_i32 : BitVec 32 := 5#32
  let v336 : Index := Scalar.indexCast c5_i32
  let c0_107 : Index := 0#32
  let c0_108 : Index := 0#32
  ![v335.toNat, 5, 0, 0]
def k0_off8 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v382 : Index := Scalar.indexCast v9
  let c6_i32 : BitVec 32 := 6#32
  let v383 : Index := Scalar.indexCast c6_i32
  let c0_117 : Index := 0#32
  let c0_118 : Index := 0#32
  ![v382.toNat, 6, 0, 0]
def k0_off9 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v429 : Index := Scalar.indexCast v9
  let c7_i32 : BitVec 32 := 7#32
  let v430 : Index := Scalar.indexCast c7_i32
  let c0_127 : Index := 0#32
  let c0_128 : Index := 0#32
  ![v429.toNat, 7, 0, 0]
def k0_off10 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v476 : Index := Scalar.indexCast v9
  let c8_i32 : BitVec 32 := 8#32
  let v477 : Index := Scalar.indexCast c8_i32
  let c0_137 : Index := 0#32
  let c0_138 : Index := 0#32
  ![v476.toNat, 8, 0, 0]
def k0_off11 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v523 : Index := Scalar.indexCast v9
  let c9_i32 : BitVec 32 := 9#32
  let v524 : Index := Scalar.indexCast c9_i32
  let c0_147 : Index := 0#32
  let c0_148 : Index := 0#32
  ![v523.toNat, 9, 0, 0]
def k0_off12 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v570 : Index := Scalar.indexCast v9
  let c10_i32 : BitVec 32 := 10#32
  let v571 : Index := Scalar.indexCast c10_i32
  let c0_157 : Index := 0#32
  let c0_158 : Index := 0#32
  ![v570.toNat, 10, 0, 0]
def k0_off13 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v617 : Index := Scalar.indexCast v9
  let c11_i32 : BitVec 32 := 11#32
  let v618 : Index := Scalar.indexCast c11_i32
  let c0_167 : Index := 0#32
  let c0_168 : Index := 0#32
  ![v617.toNat, 11, 0, 0]
def k0_off14 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v664 : Index := Scalar.indexCast v9
  let c12_i32 : BitVec 32 := 12#32
  let v665 : Index := Scalar.indexCast c12_i32
  let c0_177 : Index := 0#32
  let c0_178 : Index := 0#32
  ![v664.toNat, 12, 0, 0]
def k0_off15 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v711 : Index := Scalar.indexCast v9
  let c13_i32 : BitVec 32 := 13#32
  let v712 : Index := Scalar.indexCast c13_i32
  let c0_187 : Index := 0#32
  let c0_188 : Index := 0#32
  ![v711.toNat, 13, 0, 0]
def k0_off16 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v758 : Index := Scalar.indexCast v9
  let c14_i32 : BitVec 32 := 14#32
  let v759 : Index := Scalar.indexCast c14_i32
  let c0_197 : Index := 0#32
  let c0_198 : Index := 0#32
  ![v758.toNat, 14, 0, 0]
def k0_off17 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v805 : Index := Scalar.indexCast v9
  let c15_i32 : BitVec 32 := 15#32
  let v806 : Index := Scalar.indexCast c15_i32
  let c0_207 : Index := 0#32
  let c0_208 : Index := 0#32
  ![v805.toNat, 15, 0, 0]
def k0_off18 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v852 : Index := Scalar.indexCast v9
  let c16_i32 : BitVec 32 := 16#32
  let v853 : Index := Scalar.indexCast c16_i32
  let c0_217 : Index := 0#32
  let c0_218 : Index := 0#32
  ![v852.toNat, 16, 0, 0]
def k0_off19 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v899 : Index := Scalar.indexCast v9
  let c17_i32 : BitVec 32 := 17#32
  let v900 : Index := Scalar.indexCast c17_i32
  let c0_227 : Index := 0#32
  let c0_228 : Index := 0#32
  ![v899.toNat, 17, 0, 0]
def k0_off20 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v946 : Index := Scalar.indexCast v9
  let c18_i32 : BitVec 32 := 18#32
  let v947 : Index := Scalar.indexCast c18_i32
  let c0_237 : Index := 0#32
  let c0_238 : Index := 0#32
  ![v946.toNat, 18, 0, 0]
def k0_off21 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v993 : Index := Scalar.indexCast v9
  let c19_i32 : BitVec 32 := 19#32
  let v994 : Index := Scalar.indexCast c19_i32
  let c0_247 : Index := 0#32
  let c0_248 : Index := 0#32
  ![v993.toNat, 19, 0, 0]
def k0_off22 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1040 : Index := Scalar.indexCast v9
  let c20_i32 : BitVec 32 := 20#32
  let v1041 : Index := Scalar.indexCast c20_i32
  let c0_257 : Index := 0#32
  let c0_258 : Index := 0#32
  ![v1040.toNat, 20, 0, 0]
def k0_off23 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1087 : Index := Scalar.indexCast v9
  let c21_i32 : BitVec 32 := 21#32
  let v1088 : Index := Scalar.indexCast c21_i32
  let c0_267 : Index := 0#32
  let c0_268 : Index := 0#32
  ![v1087.toNat, 21, 0, 0]
def k0_off24 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1134 : Index := Scalar.indexCast v9
  let c22_i32 : BitVec 32 := 22#32
  let v1135 : Index := Scalar.indexCast c22_i32
  let c0_277 : Index := 0#32
  let c0_278 : Index := 0#32
  ![v1134.toNat, 22, 0, 0]
def k0_off25 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1181 : Index := Scalar.indexCast v9
  let c23_i32 : BitVec 32 := 23#32
  let v1182 : Index := Scalar.indexCast c23_i32
  let c0_287 : Index := 0#32
  let c0_288 : Index := 0#32
  ![v1181.toNat, 23, 0, 0]
def k0_off26 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1228 : Index := Scalar.indexCast v9
  let c24_i32 : BitVec 32 := 24#32
  let v1229 : Index := Scalar.indexCast c24_i32
  let c0_297 : Index := 0#32
  let c0_298 : Index := 0#32
  ![v1228.toNat, 24, 0, 0]
def k0_off27 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1275 : Index := Scalar.indexCast v9
  let c25_i32 : BitVec 32 := 25#32
  let v1276 : Index := Scalar.indexCast c25_i32
  let c0_307 : Index := 0#32
  let c0_308 : Index := 0#32
  ![v1275.toNat, 25, 0, 0]
def k0_off28 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1322 : Index := Scalar.indexCast v9
  let c26_i32 : BitVec 32 := 26#32
  let v1323 : Index := Scalar.indexCast c26_i32
  let c0_317 : Index := 0#32
  let c0_318 : Index := 0#32
  ![v1322.toNat, 26, 0, 0]
def k0_off29 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1369 : Index := Scalar.indexCast v9
  let c27_i32 : BitVec 32 := 27#32
  let v1370 : Index := Scalar.indexCast c27_i32
  let c0_327 : Index := 0#32
  let c0_328 : Index := 0#32
  ![v1369.toNat, 27, 0, 0]
def k0_off30 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1416 : Index := Scalar.indexCast v9
  let c28_i32 : BitVec 32 := 28#32
  let v1417 : Index := Scalar.indexCast c28_i32
  let c0_337 : Index := 0#32
  let c0_338 : Index := 0#32
  ![v1416.toNat, 28, 0, 0]
def k0_off31 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1463 : Index := Scalar.indexCast v9
  let c29_i32 : BitVec 32 := 29#32
  let v1464 : Index := Scalar.indexCast c29_i32
  let c0_347 : Index := 0#32
  let c0_348 : Index := 0#32
  ![v1463.toNat, 29, 0, 0]
def k0_off32 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1510 : Index := Scalar.indexCast v9
  let c30_i32 : BitVec 32 := 30#32
  let v1511 : Index := Scalar.indexCast c30_i32
  let c0_357 : Index := 0#32
  let c0_358 : Index := 0#32
  ![v1510.toNat, 30, 0, 0]
def k0_off33 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1557 : Index := Scalar.indexCast v9
  let c31_i32 : BitVec 32 := 31#32
  let v1558 : Index := Scalar.indexCast c31_i32
  let c0_367 : Index := 0#32
  let c0_368 : Index := 0#32
  ![v1557.toNat, 31, 0, 0]
def k0_cond4 (i : grid0.Coords) : BitVec 1 :=
  let arg0 : BitVec 32 := BitVec.ofNat 32 (i 0).val
  let c64_i32_380 : BitVec 32 := 64#32
  let v1576 : BitVec 1 := Scalar.cmpi .eq arg0 c64_i32_380
  let v1577 : BitVec 32 := Scalar.extui v1576
  let c0_i32_381 : BitVec 32 := 0#32
  let v1578 : BitVec 1 := Scalar.cmpi .ne v1577 c0_i32_381
  v1578

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S64x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S64x2048x128 : Shape := ⟨3, ![64, 2048, 128]⟩
abbrev S1024x128 : Shape := ⟨2, ![1024, 128]⟩
abbrev S1024x256 : Shape := ⟨2, ![1024, 256]⟩
abbrev S1024 : Shape := ⟨1, ![1024]⟩
abbrev S64x256 : Shape := ⟨2, ![64, 256]⟩
abbrev S64x2048x1024 : Shape := ⟨3, ![64, 2048, 1024]⟩
abbrev S1x1x1024 : Shape := ⟨3, ![1, 1, 1024]⟩
abbrev S_ : Shape := ⟨0, ![]⟩
abbrev S2048x64x1024 : Shape := ⟨3, ![2048, 64, 1024]⟩
abbrev S2048x64x256 : Shape := ⟨3, ![2048, 64, 256]⟩
abbrev S1x64x1024 : Shape := ⟨3, ![1, 64, 1024]⟩
abbrev S64x1024 : Shape := ⟨2, ![64, 1024]⟩
abbrev S256x1024 : Shape := ⟨2, ![256, 1024]⟩
abbrev S1x64x256 : Shape := ⟨3, ![1, 64, 256]⟩
abbrev S64x2048x256 : Shape := ⟨3, ![64, 2048, 256]⟩
abbrev S64x1x256 : Shape := ⟨3, ![64, 1, 256]⟩
abbrev S2x64x256 : Shape := ⟨3, ![2, 64, 256]⟩

abbrev nBuf : Space → Nat
  | .hbm => 165
  | .vmem => 0
  | .smem => 0
  | _ => 0

abbrev hbmTy0_0 (i : Nat) : BufTy := match i % 128 with
  | 0 => ⟨S64x2048x128, .f32⟩
  | 1 => ⟨S1024x128, .f32⟩
  | 2 => ⟨S1024x256, .f32⟩
  | 3 => ⟨S1024, .f32⟩
  | 4 => ⟨S1024, .f32⟩
  | 5 => ⟨S1024x256, .f32⟩
  | 6 => ⟨S1024x256, .f32⟩
  | 7 => ⟨S1024, .f32⟩
  | 8 => ⟨S1024, .f32⟩
  | 9 => ⟨S64x256, .f32⟩
  | 10 => ⟨S64x256, .f32⟩
  | 11 => ⟨S64x2048x1024, .f32⟩
  | 12 => ⟨S1x1x1024, .f32⟩
  | 13 => ⟨S64x2048x1024, .f32⟩
  | 14 => ⟨S64x2048x1024, .f32⟩
  | 15 => ⟨S1x1x1024, .f32⟩
  | 16 => ⟨S64x2048x1024, .f32⟩
  | 17 => ⟨S64x2048x1024, .f32⟩
  | 18 => ⟨S_, .f32⟩
  | 19 => ⟨S64x256, .f32⟩
  | 20 => ⟨S_, .f32⟩
  | 21 => ⟨S64x256, .f32⟩
  | 22 => ⟨S2048x64x1024, .f32⟩
  | 23 => ⟨S_, .f32⟩
  | 24 => ⟨S2048x64x256, .f32⟩
  | 25 => ⟨S_, .i32⟩
  | 26 => ⟨S2048x64x1024, .f32⟩
  | 27 => ⟨S1024x256, .f32⟩
  | 28 => ⟨S_, .i32⟩
  | 29 => ⟨S64x256, .f32⟩
  | 30 => ⟨S64x256, .f32⟩
  | 31 => ⟨S2048x64x256, .f32⟩
  | 32 => ⟨S_, .i32⟩
  | 33 => ⟨S_, .i1⟩
  | 34 => ⟨S_, .i32⟩
  | 35 => ⟨S_, .i32⟩
  | 36 => ⟨S1x64x1024, .f32⟩
  | 37 => ⟨S64x1024, .f32⟩
  | 38 => ⟨S256x1024, .f32⟩
  | 39 => ⟨S64x1024, .f32⟩
  | 40 => ⟨S64x1024, .f32⟩
  | 41 => ⟨S64x256, .f32⟩
  | 42 => ⟨S64x256, .f32⟩
  | 43 => ⟨S64x256, .f32⟩
  | 44 => ⟨S64x256, .f32⟩
  | 45 => ⟨S64x256, .f32⟩
  | 46 => ⟨S64x256, .f32⟩
  | 47 => ⟨S_, .f32⟩
  | 48 => ⟨S64x256, .f32⟩
  | 49 => ⟨S64x256, .f32⟩
  | 50 => ⟨S_, .f32⟩
  | 51 => ⟨S64x256, .f32⟩
  | 52 => ⟨S64x256, .f32⟩
  | 53 => ⟨S64x256, .f32⟩
  | 54 => ⟨S64x256, .f32⟩
  | 55 => ⟨S64x256, .f32⟩
  | 56 => ⟨S_, .f32⟩
  | 57 => ⟨S64x256, .f32⟩
  | 58 => ⟨S64x256, .f32⟩
  | 59 => ⟨S_, .f32⟩
  | 60 => ⟨S64x256, .f32⟩
  | 61 => ⟨S64x256, .f32⟩
  | 62 => ⟨S64x256, .f32⟩
  | 63 => ⟨S64x256, .f32⟩
  | 64 => ⟨S64x256, .f32⟩
  | 65 => ⟨S64x256, .f32⟩
  | 66 => ⟨S64x256, .f32⟩
  | 67 => ⟨S_, .f32⟩
  | 68 => ⟨S64x256, .f32⟩
  | 69 => ⟨S64x256, .f32⟩
  | 70 => ⟨S_, .f32⟩
  | 71 => ⟨S64x256, .f32⟩
  | 72 => ⟨S64x256, .f32⟩
  | 73 => ⟨S64x256, .f32⟩
  | 74 => ⟨S64x256, .f32⟩
  | 75 => ⟨S1x64x256, .f32⟩
  | 76 => ⟨S_, .i32⟩
  | 77 => ⟨S_, .i32⟩
  | 78 => ⟨S2048x64x256, .f32⟩
  | 79 => ⟨S_, .i32⟩
  | 80 => ⟨S_, .i32⟩
  | 81 => ⟨S64x2048x256, .f32⟩
  | 82 => ⟨S64x1x256, .f32⟩
  | 83 => ⟨S64x2048x256, .f32⟩
  | 84 => ⟨S64x2048x256, .f32⟩
  | 85 => ⟨S64x2048x1024, .f32⟩
  | 86 => ⟨S1x1x1024, .f32⟩
  | 87 => ⟨S64x2048x1024, .f32⟩
  | 88 => ⟨S64x2048x1024, .f32⟩
  | 89 => ⟨S1x1x1024, .f32⟩
  | 90 => ⟨S64x2048x1024, .f32⟩
  | 91 => ⟨S64x2048x1024, .f32⟩
  | 92 => ⟨S_, .f32⟩
  | 93 => ⟨S64x256, .f32⟩
  | 94 => ⟨S_, .f32⟩
  | 95 => ⟨S64x256, .f32⟩
  | 96 => ⟨S2048x64x1024, .f32⟩
  | 97 => ⟨S_, .f32⟩
  | 98 => ⟨S2048x64x256, .f32⟩
  | 99 => ⟨S_, .i32⟩
  | 100 => ⟨S2048x64x1024, .f32⟩
  | 101 => ⟨S1024x256, .f32⟩
  | 102 => ⟨S_, .i32⟩
  | 103 => ⟨S64x256, .f32⟩
  | 104 => ⟨S64x256, .f32⟩
  | 105 => ⟨S2048x64x256, .f32⟩
  | 106 => ⟨S_, .i32⟩
  | 107 => ⟨S_, .i1⟩
  | 108 => ⟨S_, .i32⟩
  | 109 => ⟨S_, .i32⟩
  | 110 => ⟨S1x64x1024, .f32⟩
  | 111 => ⟨S64x1024, .f32⟩
  | 112 => ⟨S256x1024, .f32⟩
  | 113 => ⟨S64x1024, .f32⟩
  | 114 => ⟨S64x1024, .f32⟩
  | 115 => ⟨S64x256, .f32⟩
  | 116 => ⟨S64x256, .f32⟩
  | 117 => ⟨S64x256, .f32⟩
  | 118 => ⟨S64x256, .f32⟩
  | 119 => ⟨S64x256, .f32⟩
  | 120 => ⟨S64x256, .f32⟩
  | 121 => ⟨S_, .f32⟩
  | 122 => ⟨S64x256, .f32⟩
  | 123 => ⟨S64x256, .f32⟩
  | 124 => ⟨S_, .f32⟩
  | 125 => ⟨S64x256, .f32⟩
  | 126 => ⟨S64x256, .f32⟩
  | 127 => ⟨S64x256, .f32⟩
  | _ => ⟨S64x2048x128, .f32⟩

abbrev hbmTy0_1 (i : Nat) : BufTy := match i % 128 with
  | 0 => ⟨S64x256, .f32⟩
  | 1 => ⟨S64x256, .f32⟩
  | 2 => ⟨S_, .f32⟩
  | 3 => ⟨S64x256, .f32⟩
  | 4 => ⟨S64x256, .f32⟩
  | 5 => ⟨S_, .f32⟩
  | 6 => ⟨S64x256, .f32⟩
  | 7 => ⟨S64x256, .f32⟩
  | 8 => ⟨S64x256, .f32⟩
  | 9 => ⟨S64x256, .f32⟩
  | 10 => ⟨S64x256, .f32⟩
  | 11 => ⟨S64x256, .f32⟩
  | 12 => ⟨S64x256, .f32⟩
  | 13 => ⟨S_, .f32⟩
  | 14 => ⟨S64x256, .f32⟩
  | 15 => ⟨S64x256, .f32⟩
  | 16 => ⟨S_, .f32⟩
  | 17 => ⟨S64x256, .f32⟩
  | 18 => ⟨S64x256, .f32⟩
  | 19 => ⟨S64x256, .f32⟩
  | 20 => ⟨S64x256, .f32⟩
  | 21 => ⟨S1x64x256, .f32⟩
  | 22 => ⟨S_, .i32⟩
  | 23 => ⟨S_, .i32⟩
  | 24 => ⟨S2048x64x256, .f32⟩
  | 25 => ⟨S_, .i32⟩
  | 26 => ⟨S_, .i32⟩
  | 27 => ⟨S64x2048x256, .f32⟩
  | 28 => ⟨S64x1x256, .f32⟩
  | 29 => ⟨S64x2048x256, .f32⟩
  | 30 => ⟨S64x2048x256, .f32⟩
  | 31 => ⟨S1x64x256, .f32⟩
  | 32 => ⟨S1x64x256, .f32⟩
  | 33 => ⟨S2x64x256, .f32⟩
  | 34 => ⟨S1x64x256, .f32⟩
  | 35 => ⟨S1x64x256, .f32⟩
  | 36 => ⟨S2x64x256, .f32⟩
  | _ => ⟨S64x2048x128, .f32⟩

abbrev hbmTy (i : Nat) : BufTy := match i / 128 with
  | 0 => hbmTy0_0 i
  | 1 => hbmTy0_1 i
  | _ => ⟨S64x2048x128, .f32⟩

abbrev bufTy : (tb : Table) → Fin (tcTables nBuf tb) → BufTy
  | .hbm, ⟨i, _⟩ => hbmTy i
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_c : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_while0c_c_11 : Ref sig .tc := ⟨.hbm, 32, rfl⟩
abbrev main_while0c_v38 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_v0 : Ref sig .tc := ⟨.hbm, 36, rfl⟩
abbrev main_while0b_v38 : Ref sig .tc := ⟨.hbm, 37, rfl⟩
abbrev main_while0b_v39 : Ref sig .tc := ⟨.hbm, 38, rfl⟩
abbrev main_while0b_v40 : Ref sig .tc := ⟨.hbm, 39, rfl⟩
abbrev main_while0b_v41 : Ref sig .tc := ⟨.hbm, 40, rfl⟩
abbrev main_while0b_v42 : Ref sig .tc := ⟨.hbm, 41, rfl⟩
abbrev main_while0b_v43 : Ref sig .tc := ⟨.hbm, 42, rfl⟩
abbrev main_while0b_v44 : Ref sig .tc := ⟨.hbm, 43, rfl⟩
abbrev main_while0b_v45 : Ref sig .tc := ⟨.hbm, 44, rfl⟩
abbrev main_while0b_v46 : Ref sig .tc := ⟨.hbm, 45, rfl⟩
abbrev main_while0b_v47 : Ref sig .tc := ⟨.hbm, 46, rfl⟩
abbrev main_while0b_cst_11 : Ref sig .tc := ⟨.hbm, 47, rfl⟩
abbrev main_while0b_v48 : Ref sig .tc := ⟨.hbm, 48, rfl⟩
abbrev main_while0b_v49 : Ref sig .tc := ⟨.hbm, 49, rfl⟩
abbrev main_while0b_cst_12 : Ref sig .tc := ⟨.hbm, 50, rfl⟩
abbrev main_while0b_v50 : Ref sig .tc := ⟨.hbm, 51, rfl⟩
abbrev main_while0b_v51 : Ref sig .tc := ⟨.hbm, 52, rfl⟩
abbrev main_while0b_v52 : Ref sig .tc := ⟨.hbm, 53, rfl⟩
abbrev main_while0b_v53 : Ref sig .tc := ⟨.hbm, 54, rfl⟩
abbrev main_while0b_v54 : Ref sig .tc := ⟨.hbm, 55, rfl⟩
abbrev main_while0b_cst_13 : Ref sig .tc := ⟨.hbm, 56, rfl⟩
abbrev main_while0b_v55 : Ref sig .tc := ⟨.hbm, 57, rfl⟩
abbrev main_while0b_v56 : Ref sig .tc := ⟨.hbm, 58, rfl⟩
abbrev main_while0b_cst_14 : Ref sig .tc := ⟨.hbm, 59, rfl⟩
abbrev main_while0b_v57 : Ref sig .tc := ⟨.hbm, 60, rfl⟩
abbrev main_while0b_v58 : Ref sig .tc := ⟨.hbm, 61, rfl⟩
abbrev main_while0b_v59 : Ref sig .tc := ⟨.hbm, 62, rfl⟩
abbrev main_while0b_v60 : Ref sig .tc := ⟨.hbm, 63, rfl⟩
abbrev main_while0b_v61 : Ref sig .tc := ⟨.hbm, 64, rfl⟩
abbrev main_while0b_v62 : Ref sig .tc := ⟨.hbm, 65, rfl⟩
abbrev main_while0b_v63 : Ref sig .tc := ⟨.hbm, 66, rfl⟩
abbrev main_while0b_cst_15 : Ref sig .tc := ⟨.hbm, 67, rfl⟩
abbrev main_while0b_v64 : Ref sig .tc := ⟨.hbm, 68, rfl⟩
abbrev main_while0b_v65 : Ref sig .tc := ⟨.hbm, 69, rfl⟩
abbrev main_while0b_cst_16 : Ref sig .tc := ⟨.hbm, 70, rfl⟩
abbrev main_while0b_v66 : Ref sig .tc := ⟨.hbm, 71, rfl⟩
abbrev main_while0b_v67 : Ref sig .tc := ⟨.hbm, 72, rfl⟩
abbrev main_while0b_v68 : Ref sig .tc := ⟨.hbm, 73, rfl⟩
abbrev main_while0b_v69 : Ref sig .tc := ⟨.hbm, 74, rfl⟩
abbrev main_while0b_call1_v0 : Ref sig .tc := ⟨.hbm, 75, rfl⟩
abbrev main_while0b_call1_c : Ref sig .tc := ⟨.hbm, 76, rfl⟩
abbrev main_while0b_call1_c_0 : Ref sig .tc := ⟨.hbm, 77, rfl⟩
abbrev main_while0b_v70 : Ref sig .tc := ⟨.hbm, 78, rfl⟩
abbrev main_while0b_c_17 : Ref sig .tc := ⟨.hbm, 79, rfl⟩
abbrev main_while0b_v71 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_cst_2 : Ref sig .tc := ⟨.hbm, 92, rfl⟩
abbrev main_v23 : Ref sig .tc := ⟨.hbm, 93, rfl⟩
abbrev main_cst_3 : Ref sig .tc := ⟨.hbm, 94, rfl⟩
abbrev main_v24 : Ref sig .tc := ⟨.hbm, 95, rfl⟩
abbrev main_v25 : Ref sig .tc := ⟨.hbm, 96, rfl⟩
abbrev main_cst_4 : Ref sig .tc := ⟨.hbm, 97, rfl⟩
abbrev main_v26 : Ref sig .tc := ⟨.hbm, 98, rfl⟩
abbrev main_c_5 : Ref sig .tc := ⟨.hbm, 99, rfl⟩
abbrev main_v27_0 : Ref sig .tc := ⟨.hbm, 100, rfl⟩
abbrev main_v27_1 : Ref sig .tc := ⟨.hbm, 101, rfl⟩
abbrev main_v27_2 : Ref sig .tc := ⟨.hbm, 102, rfl⟩
abbrev main_v27_3 : Ref sig .tc := ⟨.hbm, 103, rfl⟩
abbrev main_v27_4 : Ref sig .tc := ⟨.hbm, 104, rfl⟩
abbrev main_v27_5 : Ref sig .tc := ⟨.hbm, 105, rfl⟩
abbrev main_while1c_c_11 : Ref sig .tc := ⟨.hbm, 106, rfl⟩
abbrev main_while1c_v38 : Ref sig .tc := ⟨.hbm, 107, rfl⟩
abbrev main_while1b_call2_c : Ref sig .tc := ⟨.hbm, 108, rfl⟩
abbrev main_while1b_call2_c_0 : Ref sig .tc := ⟨.hbm, 109, rfl⟩
abbrev main_while1b_call2_v0 : Ref sig .tc := ⟨.hbm, 110, rfl⟩
abbrev main_while1b_v38 : Ref sig .tc := ⟨.hbm, 111, rfl⟩
abbrev main_while1b_v39 : Ref sig .tc := ⟨.hbm, 112, rfl⟩
abbrev main_while1b_v40 : Ref sig .tc := ⟨.hbm, 113, rfl⟩
abbrev main_while1b_v41 : Ref sig .tc := ⟨.hbm, 114, rfl⟩
abbrev main_while1b_v42 : Ref sig .tc := ⟨.hbm, 115, rfl⟩
abbrev main_while1b_v43 : Ref sig .tc := ⟨.hbm, 116, rfl⟩
abbrev main_while1b_v44 : Ref sig .tc := ⟨.hbm, 117, rfl⟩
abbrev main_while1b_v45 : Ref sig .tc := ⟨.hbm, 118, rfl⟩
abbrev main_while1b_v46 : Ref sig .tc := ⟨.hbm, 119, rfl⟩
abbrev main_while1b_v47 : Ref sig .tc := ⟨.hbm, 120, rfl⟩
abbrev main_while1b_cst_11 : Ref sig .tc := ⟨.hbm, 121, rfl⟩
abbrev main_while1b_v48 : Ref sig .tc := ⟨.hbm, 122, rfl⟩
abbrev main_while1b_v49 : Ref sig .tc := ⟨.hbm, 123, rfl⟩
abbrev main_while1b_cst_12 : Ref sig .tc := ⟨.hbm, 124, rfl⟩
abbrev main_while1b_v50 : Ref sig .tc := ⟨.hbm, 125, rfl⟩
abbrev main_while1b_v51 : Ref sig .tc := ⟨.hbm, 126, rfl⟩
abbrev main_while1b_v52 : Ref sig .tc := ⟨.hbm, 127, rfl⟩
abbrev main_while1b_v53 : Ref sig .tc := ⟨.hbm, 128, rfl⟩
abbrev main_while1b_v54 : Ref sig .tc := ⟨.hbm, 129, rfl⟩
abbrev main_while1b_cst_13 : Ref sig .tc := ⟨.hbm, 130, rfl⟩
abbrev main_while1b_v55 : Ref sig .tc := ⟨.hbm, 131, rfl⟩
abbrev main_while1b_v56 : Ref sig .tc := ⟨.hbm, 132, rfl⟩
abbrev main_while1b_cst_14 : Ref sig .tc := ⟨.hbm, 133, rfl⟩
abbrev main_while1b_v57 : Ref sig .tc := ⟨.hbm, 134, rfl⟩
abbrev main_while1b_v58 : Ref sig .tc := ⟨.hbm, 135, rfl⟩
abbrev main_while1b_v59 : Ref sig .tc := ⟨.hbm, 136, rfl⟩
abbrev main_while1b_v60 : Ref sig .tc := ⟨.hbm, 137, rfl⟩
abbrev main_while1b_v61 : Ref sig .tc := ⟨.hbm, 138, rfl⟩
abbrev main_while1b_v62 : Ref sig .tc := ⟨.hbm, 139, rfl⟩
abbrev main_while1b_v63 : Ref sig .tc := ⟨.hbm, 140, rfl⟩
abbrev main_while1b_cst_15 : Ref sig .tc := ⟨.hbm, 141, rfl⟩
abbrev main_while1b_v64 : Ref sig .tc := ⟨.hbm, 142, rfl⟩
abbrev main_while1b_v65 : Ref sig .tc := ⟨.hbm, 143, rfl⟩
abbrev main_while1b_cst_16 : Ref sig .tc := ⟨.hbm, 144, rfl⟩
abbrev main_while1b_v66 : Ref sig .tc := ⟨.hbm, 145, rfl⟩
abbrev main_while1b_v67 : Ref sig .tc := ⟨.hbm, 146, rfl⟩
abbrev main_while1b_v68 : Ref sig .tc := ⟨.hbm, 147, rfl⟩
abbrev main_while1b_v69 : Ref sig .tc := ⟨.hbm, 148, rfl⟩
abbrev main_while1b_call3_v0 : Ref sig .tc := ⟨.hbm, 149, rfl⟩
abbrev main_while1b_call3_c : Ref sig .tc := ⟨.hbm, 150, rfl⟩
abbrev main_while1b_call3_c_0 : Ref sig .tc := ⟨.hbm, 151, rfl⟩
abbrev main_while1b_v70 : Ref sig .tc := ⟨.hbm, 152, rfl⟩
abbrev main_while1b_c_17 : Ref sig .tc := ⟨.hbm, 153, rfl⟩
abbrev main_while1b_v71 : Ref sig .tc := ⟨.hbm, 154, rfl⟩
abbrev main_v28 : Ref sig .tc := ⟨.hbm, 155, rfl⟩
abbrev main_v29 : Ref sig .tc := ⟨.hbm, 156, rfl⟩
abbrev main_v30 : Ref sig .tc := ⟨.hbm, 157, rfl⟩
abbrev main_v31 : Ref sig .tc := ⟨.hbm, 158, rfl⟩
abbrev main_v32 : Ref sig .tc := ⟨.hbm, 159, rfl⟩
abbrev main_v33 : Ref sig .tc := ⟨.hbm, 160, rfl⟩
abbrev main_v34 : Ref sig .tc := ⟨.hbm, 161, rfl⟩
abbrev main_v35 : Ref sig .tc := ⟨.hbm, 162, rfl⟩
abbrev main_v36 : Ref sig .tc := ⟨.hbm, 163, rfl⟩
abbrev main_v37 : Ref sig .tc := ⟨.hbm, 164, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Proof.Rules.lean ====
/-
  Loads and stores of a memory reference held by its values: the contents are a function of the index, a load at a
  unit-stride rectangle reads a window of it, an unmasked store puts the payload over the window.
-/
module

public import Idealize.ShloMosaic.Lib.Tactic
public import Idealize.ShloMosaic.Lib.VecWindow
public import Idealize.ShloMosaic.Lib.ReshapeSlab

@[expose] public section

noncomputable section

namespace Cert.Rules

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at a unit-stride rectangle reads the window of what the memref holds. -/
theorem load_window {cs : CoreSpace} (m : Memref sig c.2.kind cs s e) {off size : Fin s.rank → ℕ} (inb : ∀ a, off a + size a ≤ s.size a)
    {hl : m.view.LoadsAt (Rect.unit off size inb).toLoadRect}
    {k : ((Rect.unit off size inb).toLoadRect.shape.Idx → Val e) → Prog (TpuEff nD τ sig Val Λ c.2) α}
    {q : PosShare TreeShare} (X : s.Idx → Val e) :
    owns c m q X
      ⊢ iprop((owns c m q X -∗ wp frame (wpE defs 𝒱 c bd) E (k (VecWindow.window X off size inb)) Q)
        -∗ wp frame (wpE defs 𝒱 c bd) E (Prog.lift (.load m (Rect.unit off size inb).toLoadRect hl) >>= k) Q) := by
  unfold owns
  iintro ⟨%f, %hf, H⟩ Hk
  have hS : m.view.setOn (Rect.unit off size inb).toLoadRect.set ⊆ m.view.set := Finset.map_subset_map.mpr (Finset.subset_univ _)
  iapply (wp_load 𝒱 c bd E (Q := Q) (m := m) (hl := hl) (k := k) (f := f) hS) $$ H
  iintro H
  rw [View.readAt_unit m.view f inb rfl inb, hf]
  iapply Hk
  iexists f
  isplitr [H]
  · ipureintro; exact hf
  · iexact H

/-- A load of the memref's own sizes reads what it holds. -/
theorem load_full {cs : CoreSpace} (m : Memref sig c.2.kind cs s e) {off : Fin s.rank → ℕ} (inb : ∀ a, off a + s.size a ≤ s.size a)
    {hl : m.view.LoadsAt (Rect.unit off s.size inb).toLoadRect}
    {k : ((Rect.unit off s.size inb).toLoadRect.shape.Idx → Val e) → Prog (TpuEff nD τ sig Val Λ c.2) α}
    {q : PosShare TreeShare} (X : s.Idx → Val e) :
    owns c m q X
      ⊢ iprop((owns c m q X -∗ wp frame (wpE defs 𝒱 c bd) E (k X) Q)
        -∗ wp frame (wpE defs 𝒱 c bd) E (Prog.lift (.load m (Rect.unit off s.size inb).toLoadRect hl) >>= k) Q) := by
  have h : VecWindow.window X off s.size inb = X := funext fun y => congrArg X (funext fun a => Fin.ext (by
    show off a + 1 * (y a).val = (y a).val
    have := inb a; omega))
  have := load_window (defs := defs) 𝒱 c bd E (Q := Q) m inb (hl := hl) (k := k) (q := q) X
  rw [h] at this
  exact this

/-- An unmasked store at a unit-stride rectangle puts the payload over the window of what the memref holds. -/
theorem store_put {cs : CoreSpace} (m : Memref sig c.2.kind cs s e) {off size : Fin s.rank → ℕ} (inb : ∀ a, off a + size a ≤ s.size a)
    (w : (Rect.unit off size inb).shape.Idx → Val e)
    {hx : (m.access (Rect.unit off size inb)).Stores Finset.univ}
    {hm : Finset.univ = Finset.univ ∨ ∀ a, (Rect.unit off size inb).stride a = 1}
    {k : PUnit → Prog (TpuEff nD τ sig Val Λ c.2) α} (X : s.Idx → Val e) :
    owns c m fullShare X
      ⊢ iprop((owns c m fullShare (VecWindow.put X off size w) -∗ wp frame (wpE defs 𝒱 c bd) E (k ⟨⟩) Q)
        -∗ wp frame (wpE defs 𝒱 c bd) E (Prog.lift (.store m (Rect.unit off size inb) w Finset.univ hx hm) >>= k) Q) := by
  unfold owns
  iintro ⟨%f, %hf, H⟩ Hk
  have hS : (m.access (Rect.unit off size inb)).set ⊆ m.view.set :=
    (m.set_access_subset_setOn (Rect.unit off size inb)).trans (Finset.map_subset_map.mpr (Finset.subset_univ _))
  iapply (wp_store_writes₀ 𝒱 c bd E (Q := Q) (m := m) (w := w) (hx := hx) (hm := hm) (k := k) (f := f) hS) $$ H
  iintro H
  iapply Hk
  iexists _
  isplitr [H]
  rotate_left
  · iexact H
  · ipureintro
    rw [View.read_writes_cons_put m.view f inb w [] rfl, View.writes_nil, hf]

/-- An unmasked store of the memref's own sizes leaves the payload. -/
theorem store_full {cs : CoreSpace} (m : Memref sig c.2.kind cs s e) {off : Fin s.rank → ℕ} (inb : ∀ a, off a + s.size a ≤ s.size a)
    (w : (Rect.unit off s.size inb).shape.Idx → Val e)
    {hx : (m.access (Rect.unit off s.size inb)).Stores Finset.univ}
    {hm : Finset.univ = Finset.univ ∨ ∀ a, (Rect.unit off s.size inb).stride a = 1}
    {k : PUnit → Prog (TpuEff nD τ sig Val Λ c.2) α} (X : s.Idx → Val e) :
    owns c m fullShare X
      ⊢ iprop((owns c m fullShare (w : s.Idx → Val e) -∗ wp frame (wpE defs 𝒱 c bd) E (k ⟨⟩) Q)
        -∗ wp frame (wpE defs 𝒱 c bd) E (Prog.lift (.store m (Rect.unit off s.size inb) w Finset.univ hx hm) >>= k) Q) := by
  have h : VecWindow.put X off s.size w = (w : s.Idx → Val e) := funext fun y => by
    have hy : ∀ a, off a ≤ (y a).val ∧ (y a).val < off a + s.size a := fun a => by
      have := inb a; have := (y a).isLt; omega
    show (if h : _ then w (Rect.unitLocal (s := s) (off := off) (size := s.size) y h) else _) = w y
    rw [dif_pos hy]
    exact congrArg w (funext fun a => Fin.ext (by
      show (y a).val - off a = (y a).val
      have := inb a; omega))
  have := store_put (defs := defs) 𝒱 c bd E (Q := Q) m inb w (hx := hx) (hm := hm) (k := k) X
  rw [h] at this
  exact this

/-- A program that has returned satisfies what holds of its value. -/
theorem ret_intro (a : α) : Q a ⊢ wp frame (wpE defs 𝒱 c bd) E (pure a : Prog (TpuEff nD τ sig Val Λ c.2) α) Q :=
  Idealize.SL.BI.fupd_intro

end Cert.Rules
-- ==== Proof.Step.lean ====
/-
  The kernel's body as a loop. The printed body unrolls its thirty-two time steps; here it is one step (`stepProg`), thirty-two
  times (`loopProg`), between the part that computes the chunk's input products and the part that writes the carried state and
  the results back. That the printed text is this program is `lstm_eq_body`.
-/
module

public import proofs.«01_k».proof.Proof.Gen.KernelIdeal.Skeleton
public import proofs.«01_k».proof.Proof.Rules

@[expose] public section

set_option maxRecDepth 16384

noncomputable section

namespace Cert.KernelIdeal.Body

open Cert.KernelIdeal.Gen
open Idealize.ShloMosaic Idealize.SL.Sem

variable {F : FTy → Type} [FloatOps F]

/-- The state of both layers between two time steps: cell and hidden state of layer 0, then of layer 1. -/
structure St (F : FTy → Type) where
  c0 : FVec F S64x256 .f32
  h0 : FVec F S64x256 .f32
  c1 : FVec F S64x256 .f32
  h1 : FVec F S64x256 .f32

/-- One layer's new cell state, from the recurrent weights, the hidden and cell state and the step's input product. -/
def cellC (w : FVec F S256x1024 .f32) (h c : FVec F S64x256 .f32) (x : Vec F S1x64x1024 .f32) : FVec F S64x256 .f32 := k0_pay17 w h c x

/-- One layer's new hidden state. -/
def cellH (w : FVec F S256x1024 .f32) (h c : FVec F S64x256 .f32) (x : Vec F S1x64x1024 .f32) : FVec F S64x256 .f32 := k0_pay18 w h c x

/-- Both layers one step on. -/
def St.next (w0 w1 : FVec F S256x1024 .f32) (x0 x1 : Vec F S1x64x1024 .f32) (st : St F) : St F :=
  ⟨cellC w0 st.h0 st.c0 x0, cellH w0 st.h0 st.c0 x0, cellC w1 st.h1 st.c1 x1, cellH w1 st.h1 st.c1 x1⟩

/-- Layer 0's masked hidden state as it is stored for layer 1. -/
def maskP (h m : FVec F S64x256 .f32) : FVec F S1x1x64x256 .f32 := shapeCast S1x1x64x256 (mulf h m) shapeCasts_S64x256_S1x1x64x256

/-- Layer 1's masked hidden state as it is stored for the output. -/
def maskO (h m : FVec F S64x256 .f32) : FVec F S1x64x256 .f32 := shapeCast S1x64x256 (mulf h m) shapeCasts_S64x256_S1x64x256

/-- A row lies in the chunk of input products. -/
theorem inb_row (s : ℕ) (hs : s < 32) : ∀ a, (![s, 0, 0] : Fin 3 → ℕ) a + S1x64x1024.size a ≤ S32x64x1024.size a := by
  intro a; fin_cases a <;> simp [S1x64x1024, S32x64x1024]; omega

/-- A row lies in the output buffer. -/
theorem inb_orow (s : ℕ) (hs : s < 32) : ∀ a, (![s, 0, 0] : Fin 3 → ℕ) a + S1x64x256.size a ≤ S32x64x256.size a := by
  intro a; fin_cases a <;> simp [S1x64x256, S32x64x256]; omega

/-- A row of a half lies in the double buffer. -/
theorem inb_prow (sl s : ℕ) (hsl : sl < 2) (hs : s < 32) : ∀ a, (![sl, s, 0, 0] : Fin 4 → ℕ) a + S1x1x64x256.size a ≤ S2x32x64x256.size a := by
  intro a; fin_cases a <;> simp [S1x1x64x256, S2x32x64x256] <;> omega

/-- One time step of both layers. -/
def stepProg (arg13 arg14 : Memref sig .tc .vmem S32x64x1024 .f32) (arg15 : Memref sig .tc .vmem S2x32x64x256 .f32) (arg16 : Memref sig .tc .vmem S32x64x256 .f32)
    (sl s : ℕ) (hsl : sl < 2) (hs : s < 32) (w0 w1 : FVec F S256x1024 .f32) (m0 m1 : FVec F S64x256 .f32) (st : St F) :
    Prog (TpuEff nD τ sig (Elt F) Λ₀ .tc) (St F) := do
  let x0 : Vec F S1x64x1024 .f32 ← Prog.lift (.load arg13 (Rect.unit (s := S32x64x1024) ![s, 0, 0] S1x64x1024.size (inb_row s hs)).toLoadRect (View.loadsAt_vmem h_S1x64x1024))
  let x1 : Vec F S1x64x1024 .f32 ← Prog.lift (.load arg14 (Rect.unit (s := S32x64x1024) ![s, 0, 0] S1x64x1024.size (inb_row s hs)).toLoadRect (View.loadsAt_vmem h_S1x64x1024))
  let _ : Vec F S1x1x64x256 .f32 ← Prog.lift (.load arg15 (Rect.unit (s := S2x32x64x256) ![sl, s, 0, 0] S1x1x64x256.size (inb_prow sl s hsl hs)).toLoadRect (View.loadsAt_vmem h_S1x1x64x256))
  Prog.lift (.store arg15 (Rect.unit (s := S2x32x64x256) ![sl, s, 0, 0] S1x1x64x256.size (inb_prow sl s hsl hs)) (maskP (St.next w0 w1 x0 x1 st).h0 m0) Finset.univ (View.stores_vmem_bits_univ h_S1x1x64x256 rfl) (.inl rfl))
  let _ : Vec F S1x64x256 .f32 ← Prog.lift (.load arg16 (Rect.unit (s := S32x64x256) ![s, 0, 0] S1x64x256.size (inb_orow s hs)).toLoadRect (View.loadsAt_vmem h_S1x64x256))
  Prog.lift (.store arg16 (Rect.unit (s := S32x64x256) ![s, 0, 0] S1x64x256.size (inb_orow s hs)) (maskO (St.next w0 w1 x0 x1 st).h1 m1) Finset.univ (View.stores_vmem_bits_univ h_S1x64x256 rfl) (.inl rfl))
  pure (St.next w0 w1 x0 x1 st)

/-- The `n` time steps from step `s` on, then `k`. -/
def loopProg (arg13 arg14 : Memref sig .tc .vmem S32x64x1024 .f32) (arg15 : Memref sig .tc .vmem S2x32x64x256 .f32) (arg16 : Memref sig .tc .vmem S32x64x256 .f32)
    (sl : ℕ) (hsl : sl < 2) (w0 w1 : FVec F S256x1024 .f32) (m0 m1 : FVec F S64x256 .f32) {α : Type} (k : St F → Prog (TpuEff nD τ sig (Elt F) Λ₀ .tc) α) :
    (n s : ℕ) → s + n ≤ 32 → St F → Prog (TpuEff nD τ sig (Elt F) Λ₀ .tc) α
  | 0, _, _, st => k st
  | n + 1, s, h, st => stepProg arg13 arg14 arg15 arg16 sl s hsl (by omega) w0 w1 m0 m1 st >>= fun st' =>
      loopProg arg13 arg14 arg15 arg16 sl hsl w0 w1 m0 m1 k n (s + 1) (by omega) st'

/-- `p` where the one-bit condition holds, then `k`. -/
def whenProg {α : Type} (b : BitVec 1) (p : Prog (TpuEff nD τ sig (Elt F) Λ₀ .tc) PUnit) (k : PUnit → Prog (TpuEff nD τ sig (Elt F) Λ₀ .tc) α) :
    Prog (TpuEff nD τ sig (Elt F) Λ₀ .tc) α := if h : b = 1#1 then p >>= k else k ⟨⟩

/-- The condition «this is the first grid point». -/
def isFirst (i : grid0.Coords) : BitVec 1 := Scalar.cmpi .ne (Scalar.extui (Scalar.cmpi .eq (BitVec.ofNat 32 (i 0).val) 0#32) : BitVec 32) 0#32
/-- The condition «layer 0 has a chunk at this grid point». -/
def hasL0 (a : BitVec 32) : BitVec 1 := Scalar.cmpi .ne (Scalar.extui (Scalar.cmpi .slt a 64#32) : BitVec 32) 0#32
/-- The condition «layer 1 has a chunk at this grid point». -/
def hasL1 (a : BitVec 32) : BitVec 1 := Scalar.cmpi .ne (Scalar.extui (Scalar.cmpi .sgt a 0#32) : BitVec 32) 0#32

/-- The carried state and layer 1's input are set to zero. -/
def initProg (arg15 : Memref sig .tc .vmem S2x32x64x256 .f32) (arg17 arg18 arg19 arg20 : Memref sig .tc .vmem S64x256 .f32) : Prog (TpuEff nD τ sig (Elt F) Λ₀ .tc) PUnit := do
  let _ : Vec F S64x256 .f32 ← Prog.lift (.load arg17 (Rect.unit (s := S64x256) ![0, 0] S64x256.size inb_S64x256_S64x256_0_0).toLoadRect (View.loadsAt_vmem h_S64x256))
  Prog.lift (.store arg17 (Rect.unit (s := S64x256) ![0, 0] S64x256.size inb_S64x256_S64x256_0_0) (k0_pay5 (F := F)) Finset.univ (View.stores_vmem_bits_univ h_S64x256 rfl) (.inl rfl))
  let _ : Vec F S64x256 .f32 ← Prog.lift (.load arg18 (Rect.unit (s := S64x256) ![0, 0] S64x256.size inb_S64x256_S64x256_0_0).toLoadRect (View.loadsAt_vmem h_S64x256))
  Prog.lift (.store arg18 (Rect.unit (s := S64x256) ![0, 0] S64x256.size inb_S64x256_S64x256_0_0) (k0_pay6 (F := F)) Finset.univ (View.stores_vmem_bits_univ h_S64x256 rfl) (.inl rfl))
  let _ : Vec F S64x256 .f32 ← Prog.lift (.load arg19 (Rect.unit (s := S64x256) ![0, 0] S64x256.size inb_S64x256_S64x256_0_0).toLoadRect (View.loadsAt_vmem h_S64x256))
  Prog.lift (.store arg19 (Rect.unit (s := S64x256) ![0, 0] S64x256.size inb_S64x256_S64x256_0_0) (k0_pay7 (F := F)) Finset.univ (View.stores_vmem_bits_univ h_S64x256 rfl) (.inl rfl))
  let _ : Vec F S64x256 .f32 ← Prog.lift (.load arg20 (Rect.unit (s := S64x256) ![0, 0] S64x256.size inb_S64x256_S64x256_0_0).toLoadRect (View.loadsAt_vmem h_S64x256))
  Prog.lift (.store arg20 (Rect.unit (s := S64x256) ![0, 0] S64x256.size inb_S64x256_S64x256_0_0) (k0_pay8 (F := F)) Finset.univ (View.stores_vmem_bits_univ h_S64x256 rfl) (.inl rfl))
  let _ : Vec F S1x32x64x256 .f32 ← Prog.lift (.load arg15 (Rect.unit (s := S2x32x64x256) ![1, 0, 0, 0] S1x32x64x256.size inb_S2x32x64x256_S1x32x64x256_1_0_0_0).toLoadRect (View.loadsAt_vmem h_S1x32x64x256))
  Prog.lift (.store arg15 (Rect.unit (s := S2x32x64x256) ![1, 0, 0, 0] S1x32x64x256.size inb_S2x32x64x256_S1x32x64x256_1_0_0_0) (k0_pay9 (F := F)) Finset.univ (View.stores_vmem_bits_univ h_S1x32x64x256 rfl) (.inl rfl))

/-- Two carried vectors are written back. -/
def backProg (ra rb : Memref sig .tc .vmem S64x256 .f32) (a b : FVec F S64x256 .f32) : Prog (TpuEff nD τ sig (Elt F) Λ₀ .tc) PUnit := do
  let _ : Vec F S64x256 .f32 ← Prog.lift (.load ra (Rect.unit (s := S64x256) ![0, 0] S64x256.size inb_S64x256_S64x256_0_0).toLoadRect (View.loadsAt_vmem h_S64x256))
  Prog.lift (.store ra (Rect.unit (s := S64x256) ![0, 0] S64x256.size inb_S64x256_S64x256_0_0) a Finset.univ (View.stores_vmem_bits_univ h_S64x256 rfl) (.inl rfl))
  let _ : Vec F S64x256 .f32 ← Prog.lift (.load rb (Rect.unit (s := S64x256) ![0, 0] S64x256.size inb_S64x256_S64x256_0_0).toLoadRect (View.loadsAt_vmem h_S64x256))
  Prog.lift (.store rb (Rect.unit (s := S64x256) ![0, 0] S64x256.size inb_S64x256_S64x256_0_0) b Finset.univ (View.stores_vmem_bits_univ h_S64x256 rfl) (.inl rfl))

/-- A vector as one of the two rows of a final state. -/
def asRow (x : FVec F S64x256 .f32) : FVec F S1x64x256 .f32 := shapeCast S1x64x256 x shapeCasts_S64x256_S1x64x256

/-- A carried vector and `b` are written as the two rows of a final state. -/
def rowsProg (arg : Memref sig .tc .vmem S2x64x256 .f32) (r : Memref sig .tc .vmem S64x256 .f32) (b : FVec F S64x256 .f32) : Prog (TpuEff nD τ sig (Elt F) Λ₀ .tc) PUnit := do
  let x : Vec F S64x256 .f32 ← Prog.lift (.load r (Rect.unit (s := S64x256) ![0, 0] S64x256.size inb_S64x256_S64x256_0_0).toLoadRect (View.loadsAt_vmem h_S64x256))
  let _ : Vec F S1x64x256 .f32 ← Prog.lift (.load arg (Rect.unit (s := S2x64x256) ![0, 0, 0] S1x64x256.size inb_S2x64x256_S1x64x256_0_0_0).toLoadRect (View.loadsAt_vmem h_S1x64x256))
  Prog.lift (.store arg (Rect.unit (s := S2x64x256) ![0, 0, 0] S1x64x256.size inb_S2x64x256_S1x64x256_0_0_0) (asRow x) Finset.univ (View.stores_vmem_bits_univ h_S1x64x256 rfl) (.inl rfl))
  let _ : Vec F S1x64x256 .f32 ← Prog.lift (.load arg (Rect.unit (s := S2x64x256) ![1, 0, 0] S1x64x256.size inb_S2x64x256_S1x64x256_1_0_0).toLoadRect (View.loadsAt_vmem h_S1x64x256))
  Prog.lift (.store arg (Rect.unit (s := S2x64x256) ![1, 0, 0] S1x64x256.size inb_S2x64x256_S1x64x256_1_0_0) (asRow b) Finset.univ (View.stores_vmem_bits_univ h_S1x64x256 rfl) (.inl rfl))

/-- The final hidden and cell states are written out. -/
def finalProg (arg11 arg12 : Memref sig .tc .vmem S2x64x256 .f32) (arg17 arg18 : Memref sig .tc .vmem S64x256 .f32) (h1 c1 : FVec F S64x256 .f32) : Prog (TpuEff nD τ sig (Elt F) Λ₀ .tc) PUnit := do
  rowsProg arg11 arg17 h1
  rowsProg arg12 arg18 c1

/-- The slot of the chunk buffer that this grid point writes. -/
def slot (i : grid0.Coords) : ℕ := k0_off2 i 0

/-- The half that a point writes is one of the two. -/
theorem slot_lt (i : grid0.Coords) : slot i < 2 := by
  have h := k0_off2_inb i 0
  have h1 : S1x1x64x256.size 0 = 1 := rfl
  have h2 : S2x32x64x256.size 0 = 2 := rfl
  unfold slot; omega

/-- The slot word as the body computes it. -/
def slotWord (i : grid0.Coords) : BitVec 32 :=
  let b : BitVec 32 := Scalar.select (Scalar.cmpi .eq 2#32 0#32) 1#32 2#32
  let r : BitVec 32 := Scalar.remsi (BitVec.ofNat 32 (i 0).val) b
  Scalar.select (Scalar.andi (Scalar.xori (Scalar.cmpi .slt r 0#32) (Scalar.cmpi .slt b 0#32)) (Scalar.cmpi .ne r 0#32)) (Scalar.addi r b) r

/-- Layer 1's input products for the chunk are computed from the chunk layer 0 left at the grid point before. -/
def inProg (i : grid0.Coords) (arg5 : Memref sig .tc .vmem S256x1024 .f32) (arg7 : Memref sig .tc .vmem S1x1024 .f32) (arg15 : Memref sig .tc .vmem S2x32x64x256 .f32) :
    Prog (TpuEff nD τ sig (Elt F) Λ₀ .tc) (Σ' (_ : BitVec 32) (_ : BitVec 32), FVec F S2048x1024 .f32) := do
  let v25 : Vec F S1x32x64x256 .f32 ← Prog.lift (.load arg15 (Rect.unit (s := S2x32x64x256) (k0_off1 i) S1x32x64x256.size (k0_off1_inb i)).toLoadRect (View.loadsAt_vmem h_S1x32x64x256))
  let v28 : Vec F S256x1024 .f32 ← Prog.lift (.load arg5 (Rect.unit (s := S256x1024) ![0, 0] S256x1024.size inb_S256x1024_S256x1024_0_0).toLoadRect (View.loadsAt_vmem h_S256x1024))
  let v31 : Vec F S1x1024 .f32 ← Prog.lift (.load arg7 (Rect.unit (s := S1x1024) ![0, 0] S1x1024.size inb_S1x1024_S1x1024_0_0).toLoadRect (View.loadsAt_vmem h_S1x1024))
  pure ⟨BitVec.ofNat 32 (i 0).val, slotWord i, k0_pay10 v25 v28 v31⟩

/-- Both layers' input products are stored, and the weights, masks and carried states are read, for `k`. -/
def preProg (p1 : FVec F S2048x1024 .f32) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) {α : Type}
    (k : FVec F S256x1024 .f32 → FVec F S256x1024 .f32 → FVec F S64x256 .f32 → FVec F S64x256 .f32 → St F → Prog (TpuEff nD τ sig (Elt F) Λ₀ .tc) α) : Prog (TpuEff nD τ sig (Elt F) Λ₀ .tc) α := do
  let _ : Vec F S32x64x1024 .f32 ← Prog.lift (.load arg14 (Rect.unit (s := S32x64x1024) ![0, 0, 0] S32x64x1024.size inb_S32x64x1024_S32x64x1024_0_0_0).toLoadRect (View.loadsAt_vmem h_S32x64x1024))
  Prog.lift (.store arg14 (Rect.unit (s := S32x64x1024) ![0, 0, 0] S32x64x1024.size inb_S32x64x1024_S32x64x1024_0_0_0) (k0_pay11 p1) Finset.univ (View.stores_vmem_bits_univ h_S32x64x1024 rfl) (.inl rfl))
  let v39 : Vec F S64x32x128 .f32 ← Prog.lift (.load arg1 (Rect.unit (s := S64x32x128) ![0, 0, 0] S64x32x128.size inb_S64x32x128_S64x32x128_0_0_0).toLoadRect (View.loadsAt_vmem h_S64x32x128))
  let v42 : Vec F S128x1024 .f32 ← Prog.lift (.load arg2 (Rect.unit (s := S128x1024) ![0, 0] S128x1024.size inb_S128x1024_S128x1024_0_0).toLoadRect (View.loadsAt_vmem h_S128x1024))
  let v45 : Vec F S1x1024 .f32 ← Prog.lift (.load arg4 (Rect.unit (s := S1x1024) ![0, 0] S1x1024.size inb_S1x1024_S1x1024_0_0).toLoadRect (View.loadsAt_vmem h_S1x1024))
  let _ : Vec F S32x64x1024 .f32 ← Prog.lift (.load arg13 (Rect.unit (s := S32x64x1024) ![0, 0, 0] S32x64x1024.size inb_S32x64x1024_S32x64x1024_0_0_0).toLoadRect (View.loadsAt_vmem h_S32x64x1024))
  Prog.lift (.store arg13 (Rect.unit (s := S32x64x1024) ![0, 0, 0] S32x64x1024.size inb_S32x64x1024_S32x64x1024_0_0_0) (k0_pay12 v39 v42 v45) Finset.univ (View.stores_vmem_bits_univ h_S32x64x1024 rfl) (.inl rfl))
  let w0 : Vec F S256x1024 .f32 ← Prog.lift (.load arg3 (Rect.unit (s := S256x1024) ![0, 0] S256x1024.size inb_S256x1024_S256x1024_0_0).toLoadRect (View.loadsAt_vmem h_S256x1024))
  let w1 : Vec F S256x1024 .f32 ← Prog.lift (.load arg6 (Rect.unit (s := S256x1024) ![0, 0] S256x1024.size inb_S256x1024_S256x1024_0_0).toLoadRect (View.loadsAt_vmem h_S256x1024))
  let m0 : Vec F S64x256 .f32 ← Prog.lift (.load arg8 (Rect.unit (s := S64x256) ![0, 0] S64x256.size inb_S64x256_S64x256_0_0).toLoadRect (View.loadsAt_vmem h_S64x256))
  let m1 : Vec F S64x256 .f32 ← Prog.lift (.load arg9 (Rect.unit (s := S64x256) ![0, 0] S64x256.size inb_S64x256_S64x256_0_0).toLoadRect (View.loadsAt_vmem h_S64x256))
  let h0 : Vec F S64x256 .f32 ← Prog.lift (.load arg17 (Rect.unit (s := S64x256) ![0, 0] S64x256.size inb_S64x256_S64x256_0_0).toLoadRect (View.loadsAt_vmem h_S64x256))
  let c0 : Vec F S64x256 .f32 ← Prog.lift (.load arg18 (Rect.unit (s := S64x256) ![0, 0] S64x256.size inb_S64x256_S64x256_0_0).toLoadRect (View.loadsAt_vmem h_S64x256))
  let h1 : Vec F S64x256 .f32 ← Prog.lift (.load arg19 (Rect.unit (s := S64x256) ![0, 0] S64x256.size inb_S64x256_S64x256_0_0).toLoadRect (View.loadsAt_vmem h_S64x256))
  let c1 : Vec F S64x256 .f32 ← Prog.lift (.load arg20 (Rect.unit (s := S64x256) ![0, 0] S64x256.size inb_S64x256_S64x256_0_0).toLoadRect (View.loadsAt_vmem h_S64x256))
  k (k0_pay13 w0) (k0_pay14 w1) m0 m1 ⟨c0, h0, c1, h1⟩

/-- The part after the steps: the carried states are written back and the chunk's outputs are transposed into the output block, then `k`. -/
def postProg (a : BitVec 32) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) {α : Type} (k : St F → Prog (TpuEff nD τ sig (Elt F) Λ₀ .tc) α) (st : St F) : Prog (TpuEff nD τ sig (Elt F) Λ₀ .tc) α :=
  whenProg (hasL0 a) (backProg arg17 arg18 (k0_pay271 st.h0) (k0_pay272 st.c0)) fun _ =>
  whenProg (hasL1 a) (backProg arg19 arg20 (k0_pay273 st.h1) (k0_pay274 st.c1)) fun _ =>
  Prog.lift (.load arg16 (Rect.unit (s := S32x64x256) ![0, 0, 0] S32x64x256.size inb_S32x64x256_S32x64x256_0_0_0).toLoadRect (View.loadsAt_vmem h_S32x64x256)) >>= fun o =>
  Prog.lift (.load arg10 (Rect.unit (s := S64x32x256) ![0, 0, 0] S64x32x256.size inb_S64x32x256_S64x32x256_0_0_0).toLoadRect (View.loadsAt_vmem h_S64x32x256)) >>= fun (_ : Vec F S64x32x256 .f32) =>
  Prog.lift (.store arg10 (Rect.unit (s := S64x32x256) ![0, 0, 0] S64x32x256.size inb_S64x32x256_S64x32x256_0_0_0) (k0_pay275 o) Finset.univ (View.stores_vmem_bits_univ h_S64x32x256 rfl) (.inl rfl)) >>= fun _ =>
  k st

/-- The whole body. -/
def bodyProg (i : grid0.Coords) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) : Prog (TpuEff nD τ sig (Elt F) Λ₀ .tc) PUnit :=
  whenProg (isFirst i) (initProg arg15 arg17 arg18 arg19 arg20) fun _ =>
  inProg i arg5 arg7 arg15 >>= fun a =>
  preProg a.2.2 arg1 arg2 arg3 arg4 arg5 arg6 arg7 arg8 arg9 arg10 arg11 arg12 arg13 arg14 arg15 arg16 arg17 arg18 arg19 arg20 fun w0 w1 m0 m1 st =>
  loopProg arg13 arg14 arg15 arg16 (slot i) (slot_lt i) w0 w1 m0 m1 (postProg a.1 arg1 arg2 arg3 arg4 arg5 arg6 arg7 arg8 arg9 arg10 arg11 arg12 arg13 arg14 arg15 arg16 arg17 arg18 arg19 arg20 fun st =>
    whenProg (k0_cond4 i) (finalProg arg11 arg12 arg17 arg18 st.h1 st.c1) fun _ => pure ⟨⟩) 32 0 (by decide) st

/-- What follows a conditional moves into its continuation. -/
theorem whenProg_bind {α β : Type} (b : BitVec 1) (p : Prog (TpuEff nD τ sig (Elt F) Λ₀ .tc) PUnit) (k : PUnit → Prog (TpuEff nD τ sig (Elt F) Λ₀ .tc) α) (f : α → Prog (TpuEff nD τ sig (Elt F) Λ₀ .tc) β) :
    whenProg b p k >>= f = whenProg b p fun u => k u >>= f := by
  unfold whenProg
  split
  · exact Prog.bind_assoc _ _ _
  · rfl

/-- What follows the final stores moves into their continuation. -/
theorem postProg_bind (a : BitVec 32) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) {α β : Type} (k : St F → Prog (TpuEff nD τ sig (Elt F) Λ₀ .tc) α) (f : α → Prog (TpuEff nD τ sig (Elt F) Λ₀ .tc) β) (st : St F) :
    postProg a arg1 arg2 arg3 arg4 arg5 arg6 arg7 arg8 arg9 arg10 arg11 arg12 arg13 arg14 arg15 arg16 arg17 arg18 arg19 arg20 k st >>= f = postProg a arg1 arg2 arg3 arg4 arg5 arg6 arg7 arg8 arg9 arg10 arg11 arg12 arg13 arg14 arg15 arg16 arg17 arg18 arg19 arg20 (fun st => k st >>= f) st := by
  unfold postProg
  rw [whenProg_bind]
  congr 1; funext _
  rw [whenProg_bind]
  rfl

/-- What follows the loop moves into its continuation. -/
theorem loopProg_bind (arg13 arg14 : Memref sig .tc .vmem S32x64x1024 .f32) (arg15 : Memref sig .tc .vmem S2x32x64x256 .f32) (arg16 : Memref sig .tc .vmem S32x64x256 .f32)
    (sl : ℕ) (hsl : sl < 2) (w0 w1 : FVec F S256x1024 .f32) (m0 m1 : FVec F S64x256 .f32) {α β : Type} (k : St F → Prog (TpuEff nD τ sig (Elt F) Λ₀ .tc) α) (f : α → Prog (TpuEff nD τ sig (Elt F) Λ₀ .tc) β) :
    ∀ (n s : ℕ) (h : s + n ≤ 32) (st : St F), loopProg arg13 arg14 arg15 arg16 sl hsl w0 w1 m0 m1 k n s h st >>= f
      = loopProg arg13 arg14 arg15 arg16 sl hsl w0 w1 m0 m1 (fun st => k st >>= f) n s h st
  | 0, _, _, _ => rfl
  | n + 1, s, h, st => by
    rw [loopProg, loopProg, Prog.bind_assoc]
    exact congrArg (_ >>= ·) (funext fun st' => loopProg_bind arg13 arg14 arg15 arg16 sl hsl w0 w1 m0 m1 k f n (s + 1) (by omega) st')

set_option maxRecDepth 65536 in
/-- The printed first part is the set-up at the first point, then layer 1's input products: by definitional unfolding. -/
theorem part1_eq (i : grid0.Coords) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) :
    k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = whenProg (isFirst i) (initProg arg15 arg17 arg18 arg19 arg20) fun _ => inProg i arg5 arg7 arg15 := rfl

/-- The four state vectors as the printed parts return them. -/
abbrev T4 (F : FTy → Type) [FloatOps F] : Type := Σ' (_ : FVec F S64x256 .f32) (_ : FVec F S64x256 .f32) (_ : FVec F S64x256 .f32), FVec F S64x256 .f32

def St.toT (st : St F) : T4 F := ⟨st.c0, st.h0, st.c1, st.h1⟩
def St.ofT (x : T4 F) : St F := ⟨x.1, x.2.1, x.2.2.1, x.2.2.2⟩

/-- The printed parts that are time steps, by the number of the step. -/
def printedStep (i : grid0.Coords) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (v9 : BitVec 32) (w0 w1 : FVec F S256x1024 .f32) (m0 m1 : FVec F S64x256 .f32) : ℕ → T4 F → Prog (TpuEff nD τ sig (Elt F) Λ₀ .tc) (T4 F)
  | 0, x => k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.2.1 x.1 x.2.2.2 x.2.2.1
  | 1, x => k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 2, x => k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 3, x => k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 4, x => k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 5, x => k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 6, x => k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 7, x => k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 8, x => k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 9, x => k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 10, x => k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 11, x => k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 12, x => k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 13, x => k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 14, x => k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 15, x => k0_part18 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 16, x => k0_part19 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 17, x => k0_part20 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 18, x => k0_part21 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 19, x => k0_part22 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 20, x => k0_part23 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 21, x => k0_part24 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 22, x => k0_part25 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 23, x => k0_part26 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 24, x => k0_part27 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 25, x => k0_part28 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 26, x => k0_part29 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 27, x => k0_part30 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 28, x => k0_part31 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 29, x => k0_part32 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | 30, x => k0_part33 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2
  | _, x => k0_part34 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v9 w0 w1 m0 m1 x.1 x.2.1 x.2.2.1 x.2.2.2

/-- Steps run one after the other: `n` of them from step `s` on, then `k`. -/
def chain {α : Type} (step : ℕ → T4 F → Prog (TpuEff nD τ sig (Elt F) Λ₀ .tc) (T4 F)) (k : T4 F → Prog (TpuEff nD τ sig (Elt F) Λ₀ .tc) α) : ℕ → ℕ → T4 F → Prog (TpuEff nD τ sig (Elt F) Λ₀ .tc) α
  | 0, _, x => k x
  | n + 1, s, x => step s x >>= chain step k n (s + 1)

set_option maxRecDepth 65536 in
/-- Every printed time step is `stepProg`. -/
theorem printedStep_eq (i : grid0.Coords) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (v9 : BitVec 32) (w0 w1 : FVec F S256x1024 .f32) (m0 m1 : FVec F S64x256 .f32)
    (s : Fin 32) (x : T4 F) :
    printedStep i arg1 arg2 arg3 arg4 arg5 arg6 arg7 arg8 arg9 arg10 arg11 arg12 arg13 arg14 arg15 arg16 arg17 arg18 arg19 arg20 harg1 harg2 harg3 harg4 harg5 harg6 harg7 harg8 harg9 harg10 harg11 harg12 harg13 harg14 harg15 harg16 harg17 harg18 harg19 harg20 v9 w0 w1 m0 m1 s.val x = stepProg arg13 arg14 arg15 arg16 (slot i) s.val (slot_lt i) s.isLt w0 w1 m0 m1 (St.ofT x) >>= fun st => pure st.toT := by
  fin_cases s <;> rfl

/-- The printed steps in a row are the loop. -/
theorem chain_eq (i : grid0.Coords) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (v9 : BitVec 32) (w0 w1 : FVec F S256x1024 .f32) (m0 m1 : FVec F S64x256 .f32) {α : Type} (k : T4 F → Prog (TpuEff nD τ sig (Elt F) Λ₀ .tc) α) :
    ∀ (n s : ℕ) (h : s + n ≤ 32) (x : T4 F), chain (printedStep i arg1 arg2 arg3 arg4 arg5 arg6 arg7 arg8 arg9 arg10 arg11 arg12 arg13 arg14 arg15 arg16 arg17 arg18 arg19 arg20 harg1 harg2 harg3 harg4 harg5 harg6 harg7 harg8 harg9 harg10 harg11 harg12 harg13 harg14 harg15 harg16 harg17 harg18 harg19 harg20 v9 w0 w1 m0 m1) k n s x
      = loopProg arg13 arg14 arg15 arg16 (slot i) (slot_lt i) w0 w1 m0 m1 (fun st => k st.toT) n s h (St.ofT x)
  | 0, _, _, _ => rfl
  | n + 1, s, h, x => by
    have e := printedStep_eq i arg1 arg2 arg3 arg4 arg5 arg6 arg7 arg8 arg9 arg10 arg11 arg12 arg13 arg14 arg15 arg16 arg17 arg18 arg19 arg20 harg1 harg2 harg3 harg4 harg5 harg6 harg7 harg8 harg9 harg10 harg11 harg12 harg13 harg14 harg15 harg16 harg17 harg18 harg19 harg20 v9 w0 w1 m0 m1 ⟨s, by omega⟩ x
    rw [chain, loopProg, e, Prog.bind_assoc]
    exact congrArg (_ >>= ·) (funext fun st => chain_eq i arg1 arg2 arg3 arg4 arg5 arg6 arg7 arg8 arg9 arg10 arg11 arg12 arg13 arg14 arg15 arg16 arg17 arg18 arg19 arg20 harg1 harg2 harg3 harg4 harg5 harg6 harg7 harg8 harg9 harg10 harg11 harg12 harg13 harg14 harg15 harg16 harg17 harg18 harg19 harg20 v9 w0 w1 m0 m1 k n (s + 1) (by omega) st.toT)

set_option maxRecDepth 65536 in
/-- The printed second part: by definitional unfolding. -/
theorem part2_eq (i : grid0.Coords) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (p1 : FVec F S2048x1024 .f32) :
    k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 p1 = preProg p1 arg1 arg2 arg3 arg4 arg5 arg6 arg7 arg8 arg9 arg10 arg11 arg12 arg13 arg14 arg15 arg16 arg17 arg18 arg19 arg20 fun w0 w1 m0 m1 st => pure ⟨w0, w1, m0, m1, st.h0, st.c0, st.h1, st.c1⟩ := rfl

/-- A step and a chain from the next one are a chain from that step. -/
theorem chain_step {α : Type} {step : ℕ → T4 F → Prog (TpuEff nD τ sig (Elt F) Λ₀ .tc) (T4 F)} {k : T4 F → Prog (TpuEff nD τ sig (Elt F) Λ₀ .tc) α} {n s : ℕ} {x : T4 F} {p : Prog (TpuEff nD τ sig (Elt F) Λ₀ .tc) (T4 F)} {f : T4 F → Prog (TpuEff nD τ sig (Elt F) Λ₀ .tc) α}
    (hp : p = step s x) (hf : ∀ a b c d, f ⟨a, b, c, d⟩ = chain step k n (s + 1) ⟨a, b, c, d⟩) : p >>= f = chain step k (n + 1) s x := by
  subst hp
  exact congrArg (_ >>= ·) (funext fun ⟨a, b, c, d⟩ => hf a b c d)

/-- The printed body up to the final states is its first two parts, then the printed steps in a row. -/
theorem part35_eq (i : grid0.Coords) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) :
    k0_part35 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 =
      (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= fun a =>
        k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a.2.2 >>= fun b =>
        chain (printedStep i arg1 arg2 arg3 arg4 arg5 arg6 arg7 arg8 arg9 arg10 arg11 arg12 arg13 arg14 arg15 arg16 arg17 arg18 arg19 arg20 harg1 harg2 harg3 harg4 harg5 harg6 harg7 harg8 harg9 harg10 harg11 harg12 harg13 harg14 harg15 harg16 harg17 harg18 harg19 harg20 a.2.1 b.1 b.2.1 b.2.2.1 b.2.2.2.1) (fun x => postProg a.1 arg1 arg2 arg3 arg4 arg5 arg6 arg7 arg8 arg9 arg10 arg11 arg12 arg13 arg14 arg15 arg16 arg17 arg18 arg19 arg20 (fun st =>
          (pure ⟨st.c1, st.h1, Scalar.extui (Scalar.cmpi .eq a.1 64#32)⟩ : Prog (TpuEff nD τ sig (Elt F) Λ₀ .tc) (Σ' (_ : FVec F S64x256 .f32) (_ : FVec F S64x256 .f32), BitVec 32))) (St.ofT x)) 32 0
          ⟨b.2.2.2.2.2.1, b.2.2.2.2.1, b.2.2.2.2.2.2.2, b.2.2.2.2.2.2.1⟩) := by
  rw [k0_part35_eq_skeleton]
  unfold k0_part35_skel
  refine congrArg (_ >>= ·) (funext fun ⟨a, b, c⟩ => ?_)
  refine congrArg (_ >>= ·) (funext fun ⟨w0, w1, m0, m1, h0, c0, h1, c1⟩ => ?_)
  iterate 32 (refine chain_step rfl fun _ _ _ _ => ?_)
  unfold chain postProg whenProg backProg
  rfl

/-- The printed body is its first two parts, the printed steps in a row and the final states. -/
theorem lstm_eq_parts (i : grid0.Coords) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) :
    cc0_vd_lstm2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 =
      (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 >>= fun a =>
        k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a.2.2 >>= fun b =>
        chain (printedStep i arg1 arg2 arg3 arg4 arg5 arg6 arg7 arg8 arg9 arg10 arg11 arg12 arg13 arg14 arg15 arg16 arg17 arg18 arg19 arg20 harg1 harg2 harg3 harg4 harg5 harg6 harg7 harg8 harg9 harg10 harg11 harg12 harg13 harg14 harg15 harg16 harg17 harg18 harg19 harg20 a.2.1 b.1 b.2.1 b.2.2.1 b.2.2.2.1) (fun x => postProg a.1 arg1 arg2 arg3 arg4 arg5 arg6 arg7 arg8 arg9 arg10 arg11 arg12 arg13 arg14 arg15 arg16 arg17 arg18 arg19 arg20 (fun st =>
          (pure ⟨st.c1, st.h1, Scalar.extui (Scalar.cmpi .eq a.1 64#32)⟩ : Prog (TpuEff nD τ sig (Elt F) Λ₀ .tc) (Σ' (_ : FVec F S64x256 .f32) (_ : FVec F S64x256 .f32), BitVec 32))) (St.ofT x)) 32 0
          ⟨b.2.2.2.2.2.1, b.2.2.2.2.1, b.2.2.2.2.2.2.2, b.2.2.2.2.2.2.1⟩)
      >>= fun x => whenProg (k0_cond4 i) (finalProg arg11 arg12 arg17 arg18 x.2.1 x.1) fun _ => pure ⟨⟩ := by
  rw [← part35_eq, cc0_vd_lstm2_eq_skeleton]
  rfl

/-- The printed body is `bodyProg`. -/
theorem lstm_eq_body (i : grid0.Coords) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) :
    cc0_vd_lstm2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = bodyProg i arg1 arg2 arg3 arg4 arg5 arg6 arg7 arg8 arg9 arg10 arg11 arg12 arg13 arg14 arg15 arg16 arg17 arg18 arg19 arg20 := by
  rw [lstm_eq_parts, part1_eq, whenProg_bind, whenProg_bind]
  unfold bodyProg
  congr 1; funext _
  rw [Prog.bind_assoc]
  congr 1; funext a
  rw [part2_eq i arg1 arg2 arg3 arg4 arg5 arg6 arg7 arg8 arg9 arg10 arg11 arg12 arg13 arg14 arg15 arg16 arg17 arg18 arg19 arg20 harg1 harg2 harg3 harg4 harg5 harg6 harg7 harg8 harg9 harg10 harg11 harg12 harg13 harg14 harg15 harg16 harg17 harg18 harg19 harg20]
  show preProg (F := F) _ arg1 arg2 arg3 arg4 arg5 arg6 arg7 arg8 arg9 arg10 arg11 arg12 arg13 arg14 arg15 arg16 arg17 arg18 arg19 arg20 (fun w0 w1 m0 m1 st => chain (printedStep i arg1 arg2 arg3 arg4 arg5 arg6 arg7 arg8 arg9 arg10 arg11 arg12 arg13 arg14 arg15 arg16 arg17 arg18 arg19 arg20 harg1 harg2 harg3 harg4 harg5 harg6 harg7 harg8 harg9 harg10 harg11 harg12 harg13 harg14 harg15 harg16 harg17 harg18 harg19 harg20 a.2.1 w0 w1 m0 m1) _ 32 0 st.toT >>= _) = _
  congr 1; funext w0 w1 m0 m1 st
  rw [chain_eq i arg1 arg2 arg3 arg4 arg5 arg6 arg7 arg8 arg9 arg10 arg11 arg12 arg13 arg14 arg15 arg16 arg17 arg18 arg19 arg20 harg1 harg2 harg3 harg4 harg5 harg6 harg7 harg8 harg9 harg10 harg11 harg12 harg13 harg14 harg15 harg16 harg17 harg18 harg19 harg20 (h := by decide), loopProg_bind]
  show loopProg arg13 arg14 arg15 arg16 (slot i) (slot_lt i) w0 w1 m0 m1 _ 32 0 _ st = _
  congr 1; funext st
  exact postProg_bind _ arg1 arg2 arg3 arg4 arg5 arg6 arg7 arg8 arg9 arg10 arg11 arg12 arg13 arg14 arg15 arg16 arg17 arg18 arg19 arg20 _ _ _

end Cert.KernelIdeal.Body
-- ==== Proof.Loop.lean ====
/-
  The time steps of one grid point: what the two chunk buffers hold after any number of steps, and the triple of the loop.
-/
module

public import proofs.«01_k».proof.Proof.Step
public import proofs.«01_k».proof.Proof.Gen.KernelIdeal.Frame
public import Idealize.ShloMosaic.Lib.PointwiseCore

@[expose] public section

set_option maxRecDepth 16384

noncomputable section

namespace Cert.KernelIdeal.Body

open Cert.KernelIdeal.Gen Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row `s` of a chunk of input products, as a load reads it. -/
def rowX (X : Vec F S32x64x1024 .f32) (s : ℕ) : Vec F S1x64x1024 .f32 :=
  fun y => X (ix3 ⟨s % 32, Nat.mod_lt _ (by decide)⟩ (y 1) (y 2))

/-- The window of one row is that row. -/
theorem window_rowX (X : Vec F S32x64x1024 .f32) (s : ℕ) (hs : s < 32) :
    VecWindow.window X ![s, 0, 0] S1x64x1024.size (inb_row s hs) = rowX X s := by
  funext y
  refine congrArg X (funext fun a => Fin.ext ?_)
  have h0 : (y 0).val = 0 := Nat.lt_one_iff.mp (show (y 0).val < 1 from (y 0).isLt)
  match a with
  | ⟨0, _⟩ => show s + 1 * (y 0).val = s % 32; rw [h0, Nat.mod_eq_of_lt hs]; rfl
  | ⟨1, _⟩ => show 0 + 1 * (y 1).val = (y 1).val; omega
  | ⟨2, _⟩ => show 0 + 1 * (y 2).val = (y 2).val; omega

/-- The states of both layers before each step of a chunk whose input products are `X0` and `X1`. -/
def stAt (w0 w1 : FVec F S256x1024 .f32) (X0 X1 : Vec F S32x64x1024 .f32) (st : St F) : ℕ → St F
  | 0 => st
  | s + 1 => St.next w0 w1 (rowX X0 s) (rowX X1 s) (stAt w0 w1 X0 X1 st s)

/-- The chunk buffer's contents after each step: the masked hidden states of layer 0, row by row in slot `sl`, over what was there. -/
def bufP (w0 w1 : FVec F S256x1024 .f32) (X0 X1 : Vec F S32x64x1024 .f32) (st : St F) (m0 : FVec F S64x256 .f32) (sl : ℕ) (B : Vec F S2x32x64x256 .f32) : ℕ → Vec F S2x32x64x256 .f32
  | 0 => B
  | s + 1 => VecWindow.put (bufP w0 w1 X0 X1 st m0 sl B s) ![sl, s, 0, 0] S1x1x64x256.size (maskP (stAt w0 w1 X0 X1 st (s + 1)).h0 m0)

/-- The output buffer's contents after each step: the masked hidden states of layer 1, row by row, over what was there. -/
def bufO (w0 w1 : FVec F S256x1024 .f32) (X0 X1 : Vec F S32x64x1024 .f32) (st : St F) (m1 : FVec F S64x256 .f32) (O : Vec F S32x64x256 .f32) : ℕ → Vec F S32x64x256 .f32
  | 0 => O
  | s + 1 => VecWindow.put (bufO w0 w1 X0 X1 st m1 O s) ![s, 0, 0] S1x64x256.size (maskO (stAt w0 w1 X0 X1 st (s + 1)).h1 m1)

/-- The loop's triple: from the state and buffers after `s` steps, `n` more steps leave those after `e = s + n`. -/
theorem loop_wp (c : Dev nD) (arg13 arg14 : Memref sig .tc .vmem S32x64x1024 .f32) (arg15 : Memref sig .tc .vmem S2x32x64x256 .f32) (arg16 : Memref sig .tc .vmem S32x64x256 .f32)
    (sl : ℕ) (hsl : sl < 2) (w0 w1 : FVec F S256x1024 .f32) (m0 m1 : FVec F S64x256 .f32) (X0 X1 : Vec F S32x64x1024 .f32) (st : St F)
    (B : Vec F S2x32x64x256 .f32) (O : Vec F S32x64x256 .f32)
    {α : Type} (k : St F → Prog (TpuEff nD τ sig (Elt F) Λ₀ .tc) α) (Q : α → sProp 𝕄) :
    ∀ (n s : ℕ) (h : s + n ≤ 32) (e : ℕ) (he : s + n = e),
    iprop(owns (c : Thread nD τ) arg13 fullShare X0 ∗ owns (c : Thread nD τ) arg14 fullShare X1
      ∗ owns (c : Thread nD τ) arg15 fullShare (bufP w0 w1 X0 X1 st m0 sl B s) ∗ owns (c : Thread nD τ) arg16 fullShare (bufO w0 w1 X0 X1 st m1 O s)
      ∗ (owns (c : Thread nD τ) arg13 fullShare X0 -∗ owns (c : Thread nD τ) arg14 fullShare X1
        -∗ owns (c : Thread nD τ) arg15 fullShare (bufP w0 w1 X0 X1 st m0 sl B e) -∗ owns (c : Thread nD τ) arg16 fullShare (bufO w0 w1 X0 X1 st m1 O e)
        -∗ wp frame (wpE (defs₀ (F := F)) Variants.none (c : Thread nD τ) none) Set.univ (k (stAt w0 w1 X0 X1 st e)) Q))
      ⊢ wp frame (wpE (defs₀ (F := F)) Variants.none (c : Thread nD τ) none) Set.univ
          (loopProg arg13 arg14 arg15 arg16 sl hsl w0 w1 m0 m1 k n s h (stAt w0 w1 X0 X1 st s)) Q
  | 0, s, h, _, rfl => by
    iintro ⟨H13, H14, H15, H16, Hk⟩
    iapply Hk $$ H13 H14 H15 H16
  | n + 1, s, h, e, he => by
    iintro ⟨H13, H14, H15, H16, Hk⟩
    unfold loopProg stepProg
    simp only [Prog.bind_assoc]
    iapply (load_window (defs := defs₀ (F := F)) Variants.none (c : Thread nD τ) none Set.univ (Q := Q) arg13 (inb_row s (by omega)) X0) $$ H13
    iintro H13
    iapply (load_window (defs := defs₀ (F := F)) Variants.none (c : Thread nD τ) none Set.univ (Q := Q) arg14 (inb_row s (by omega)) X1) $$ H14
    iintro H14
    rw [window_rowX X0 s (by omega), window_rowX X1 s (by omega)]
    iapply (load_window (defs := defs₀ (F := F)) Variants.none (c : Thread nD τ) none Set.univ (Q := Q) arg15 (inb_prow sl s hsl (by omega)) _) $$ H15
    iintro H15
    iapply (store_put (defs := defs₀ (F := F)) Variants.none (c : Thread nD τ) none Set.univ (Q := Q) arg15 (inb_prow sl s hsl (by omega)) _ _) $$ H15
    iintro H15
    iapply (load_window (defs := defs₀ (F := F)) Variants.none (c : Thread nD τ) none Set.univ (Q := Q) arg16 (inb_orow s (by omega)) _) $$ H16
    iintro H16
    iapply (store_put (defs := defs₀ (F := F)) Variants.none (c : Thread nD τ) none Set.univ (Q := Q) arg16 (inb_orow s (by omega)) _ _) $$ H16
    iintro H16
    iapply (loop_wp c arg13 arg14 arg15 arg16 sl hsl w0 w1 m0 m1 X0 X1 st B O k Q n (s + 1) (by omega) e (by omega))
    isplitl [H13]
    · iexact H13
    isplitl [H14]
    · iexact H14
    isplitl [H15]
    · iexact H15
    isplitl [H16]
    · iexact H16
    iexact Hk

end Cert.KernelIdeal.Body
-- ==== Proof.Body.lean ====
/-
  The triple of one grid point's body: what it leaves in every buffer, as pure functions of what the buffers held.
-/
module

public import proofs.«01_k».proof.Proof.Loop

@[expose] public section

set_option maxRecDepth 16384

noncomputable section

namespace Cert.KernelIdeal.Body

open Cert.KernelIdeal.Gen Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values -/

/-- The nine input blocks of a grid point: the chunk of the sequence, then layer by layer input weights, recurrent weights and bias, then the two masks. -/
structure Ins (F : FTy → Type) where
  x : Vec F S64x32x128 .f32
  w0 : Vec F S128x1024 .f32
  r0 : Vec F S256x1024 .f32
  b0 : Vec F S1x1024 .f32
  w1 : Vec F S256x1024 .f32
  r1 : Vec F S256x1024 .f32
  b1 : Vec F S1x1024 .f32
  m0 : Vec F S64x256 .f32
  m1 : Vec F S64x256 .f32

/-- Layer 0's input products of the chunk. -/
def Ins.xw0 (I : Ins F) : Vec F S32x64x1024 .f32 := k0_pay12 I.x I.w0 I.b0
/-- Layer 1's input products of a chunk of masked hidden states. -/
def Ins.xw1 (I : Ins F) (p : Vec F S1x32x64x256 .f32) : Vec F S32x64x1024 .f32 := k0_pay11 (k0_pay10 p I.w1 I.b1)

/-- The states of both layers at each step of a grid point that reads the chunk `p` and starts from `st`. -/
def Ins.run (I : Ins F) (p : Vec F S1x32x64x256 .f32) (st : St F) : ℕ → St F :=
  stAt (k0_pay13 I.r0) (k0_pay14 I.r1) I.xw0 (I.xw1 p) st

/-- The zero state. -/
def St.zero : St F := ⟨k0_pay6, k0_pay5, k0_pay8, k0_pay7⟩

/-- The state a grid point starts from: zero at the first. -/
def St.start (i : grid0.Coords) (st : St F) : St F := ⟨if isFirst i = 1#1 then k0_pay6 else st.c0, if isFirst i = 1#1 then k0_pay5 else st.h0,
  if isFirst i = 1#1 then k0_pay8 else st.c1, if isFirst i = 1#1 then k0_pay7 else st.h1⟩

/-- The chunk buffer a grid point starts from: at the first, zero in the slot that is read. -/
def bufStart (i : grid0.Coords) (B : Vec F S2x32x64x256 .f32) : Vec F S2x32x64x256 .f32 :=
  if isFirst i = 1#1 then VecWindow.put B ![1, 0, 0, 0] S1x32x64x256.size (k0_pay9 (F := F)) else B

/-- The chunk of layer 0's masked hidden states that a grid point reads. -/
def Ins.pBlk (_ : Ins F) (i : grid0.Coords) (B : Vec F S2x32x64x256 .f32) : Vec F S1x32x64x256 .f32 :=
  VecWindow.window (bufStart i B) (k0_off1 i) S1x32x64x256.size (k0_off1_inb i)

/-- The state after a grid point's thirty-two steps. -/
def Ins.fin (I : Ins F) (i : grid0.Coords) (B : Vec F S2x32x64x256 .f32) (st : St F) : St F := I.run (I.pBlk i B) (st.start i) 32

/-- The chunk buffer after the steps. -/
def Ins.bufB (I : Ins F) (i : grid0.Coords) (B : Vec F S2x32x64x256 .f32) (st : St F) : Vec F S2x32x64x256 .f32 :=
  bufP (k0_pay13 I.r0) (k0_pay14 I.r1) I.xw0 (I.xw1 (I.pBlk i B)) (st.start i) I.m0 (slot i) (bufStart i B) 32

/-- The output buffer after the steps. -/
def Ins.bufOut (I : Ins F) (i : grid0.Coords) (B : Vec F S2x32x64x256 .f32) (O : Vec F S32x64x256 .f32) (st : St F) : Vec F S32x64x256 .f32 :=
  bufO (k0_pay13 I.r0) (k0_pay14 I.r1) I.xw0 (I.xw1 (I.pBlk i B)) (st.start i) I.m1 O 32

/-- The output block. -/
def Ins.outBlk (I : Ins F) (i : grid0.Coords) (B : Vec F S2x32x64x256 .f32) (O : Vec F S32x64x256 .f32) (st : St F) : Vec F S64x32x256 .f32 :=
  k0_pay275 (I.bufOut i B O st)

/-- The carried state a grid point leaves: layer 0's where layer 0 had a chunk, layer 1's where layer 1 had one. -/
def Ins.carry (I : Ins F) (i : grid0.Coords) (B : Vec F S2x32x64x256 .f32) (st : St F) : St F :=
  ⟨if hasL0 (BitVec.ofNat 32 (i 0).val) = 1#1 then k0_pay272 (I.fin i B st).c0 else (st.start i).c0,
    if hasL0 (BitVec.ofNat 32 (i 0).val) = 1#1 then k0_pay271 (I.fin i B st).h0 else (st.start i).h0,
    if hasL1 (BitVec.ofNat 32 (i 0).val) = 1#1 then k0_pay274 (I.fin i B st).c1 else (st.start i).c1,
    if hasL1 (BitVec.ofNat 32 (i 0).val) = 1#1 then k0_pay273 (I.fin i B st).h1 else (st.start i).h1⟩

/-- Two vectors put as the two rows of a final state. -/
def twoRows (Y : Vec F S2x64x256 .f32) (a b : FVec F S64x256 .f32) : Vec F S2x64x256 .f32 :=
  VecWindow.put (VecWindow.put Y ![0, 0, 0] S1x64x256.size (asRow a)) ![1, 0, 0] S1x64x256.size (asRow b)

/-- The block of final hidden states after a grid point. -/
def Ins.hnBlk (I : Ins F) (i : grid0.Coords) (B : Vec F S2x32x64x256 .f32) (st : St F) (Y : Vec F S2x64x256 .f32) : Vec F S2x64x256 .f32 :=
  if k0_cond4 i = 1#1 then twoRows Y (I.carry i B st).h0 (I.fin i B st).h1 else Y

/-- The block of final cell states after a grid point. -/
def Ins.cnBlk (I : Ins F) (i : grid0.Coords) (B : Vec F S2x32x64x256 .f32) (st : St F) (Y : Vec F S2x64x256 .f32) : Vec F S2x64x256 .f32 :=
  if k0_cond4 i = 1#1 then twoRows Y (I.carry i B st).c0 (I.fin i B st).c1 else Y

/-! ## The rules at this kernel's thread -/

section Rules

variable (c : Dev nD) {s : Shape} (m : Memref sig .tc .vmem s .f32) {off : Fin s.rank → ℕ}

/-- Loading a whole buffer gives its contents and leaves them. -/
theorem ld {α : Type} {Q : α → sProp 𝕄} {inb : ∀ a, off a + s.size a ≤ s.size a} {hl : m.view.LoadsAt (Rect.unit off s.size inb).toLoadRect}
    {k : Vec F s .f32 → Prog (TpuEff nD τ sig (Elt F) Λ₀ .tc) α} (X : Vec F s .f32) :
    owns (c : Thread nD τ) m fullShare X
      ⊢ iprop((owns (c : Thread nD τ) m fullShare X -∗ wp frame (wpE (defs₀ (F := F)) Variants.none (c : Thread nD τ) none) Set.univ (k X) Q)
        -∗ wp frame (wpE (defs₀ (F := F)) Variants.none (c : Thread nD τ) none) Set.univ (Prog.lift (.load m (Rect.unit off s.size inb).toLoadRect hl) >>= k) Q) :=
  load_full (defs := defs₀ (F := F)) Variants.none (c : Thread nD τ) none Set.univ (Q := Q) m inb X

/-- Storing over a whole buffer leaves the stored value. -/
theorem stv {α : Type} {Q : α → sProp 𝕄} {inb : ∀ a, off a + s.size a ≤ s.size a} {w : Vec F s .f32} {hx : (m.access (Rect.unit off s.size inb)).Stores Finset.univ}
    {hm : Finset.univ = Finset.univ ∨ ∀ a, (Rect.unit off s.size inb).stride a = 1}
    {k : PUnit → Prog (TpuEff nD τ sig (Elt F) Λ₀ .tc) α} (X : Vec F s .f32) :
    owns (c : Thread nD τ) m fullShare X
      ⊢ iprop((owns (c : Thread nD τ) m fullShare w -∗ wp frame (wpE (defs₀ (F := F)) Variants.none (c : Thread nD τ) none) Set.univ (k ⟨⟩) Q)
        -∗ wp frame (wpE (defs₀ (F := F)) Variants.none (c : Thread nD τ) none) Set.univ (Prog.lift (.store m (Rect.unit off s.size inb) w Finset.univ hx hm) >>= k) Q) :=
  store_full (defs := defs₀ (F := F)) Variants.none (c : Thread nD τ) none Set.univ (Q := Q) m inb w X

variable {size : Fin s.rank → ℕ}

/-- Loading a window of a buffer gives that window of its contents and leaves them. -/
theorem ldw {α : Type} {Q : α → sProp 𝕄} {inb : ∀ a, off a + size a ≤ s.size a} {hl : m.view.LoadsAt (Rect.unit off size inb).toLoadRect}
    {k : ((Rect.unit off size inb).toLoadRect.shape.Idx → Elt F .f32) → Prog (TpuEff nD τ sig (Elt F) Λ₀ .tc) α} (X : Vec F s .f32) :
    owns (c : Thread nD τ) m fullShare X
      ⊢ iprop((owns (c : Thread nD τ) m fullShare X -∗ wp frame (wpE (defs₀ (F := F)) Variants.none (c : Thread nD τ) none) Set.univ (k (VecWindow.window X off size inb)) Q)
        -∗ wp frame (wpE (defs₀ (F := F)) Variants.none (c : Thread nD τ) none) Set.univ (Prog.lift (.load m (Rect.unit off size inb).toLoadRect hl) >>= k) Q) :=
  load_window (defs := defs₀ (F := F)) Variants.none (c : Thread nD τ) none Set.univ (Q := Q) m inb X

/-- Storing over a window of a buffer replaces that window of its contents. -/
theorem stw {α : Type} {Q : α → sProp 𝕄} {inb : ∀ a, off a + size a ≤ s.size a} {w : (Rect.unit off size inb).shape.Idx → Elt F .f32} {hx : (m.access (Rect.unit off size inb)).Stores Finset.univ}
    {hm : Finset.univ = Finset.univ ∨ ∀ a, (Rect.unit off size inb).stride a = 1}
    {k : PUnit → Prog (TpuEff nD τ sig (Elt F) Λ₀ .tc) α} (X : Vec F s .f32) :
    owns (c : Thread nD τ) m fullShare X
      ⊢ iprop((owns (c : Thread nD τ) m fullShare (VecWindow.put X off size w) -∗ wp frame (wpE (defs₀ (F := F)) Variants.none (c : Thread nD τ) none) Set.univ (k ⟨⟩) Q)
        -∗ wp frame (wpE (defs₀ (F := F)) Variants.none (c : Thread nD τ) none) Set.univ (Prog.lift (.store m (Rect.unit off size inb) w Finset.univ hx hm) >>= k) Q) :=
  store_put (defs := defs₀ (F := F)) Variants.none (c : Thread nD τ) none Set.univ (Q := Q) m inb w X

end Rules

/-! ## The pieces -/

section Pieces

variable (c : Dev nD)

/-- A conditional piece: what both ways leave is what it leaves. -/
theorem when_wp {α : Type} {Q : α → sProp 𝕄} {b : BitVec 1} {p : Prog (TpuEff nD τ sig (Elt F) Λ₀ .tc) PUnit} {k : PUnit → Prog (TpuEff nD τ sig (Elt F) Λ₀ .tc) α} {P R : sProp 𝕄}
    (ht : b = 1#1 → P ⊢ iprop((R -∗ wp frame (wpE (defs₀ (F := F)) Variants.none (c : Thread nD τ) none) Set.univ (k ⟨⟩) Q)
      -∗ wp frame (wpE (defs₀ (F := F)) Variants.none (c : Thread nD τ) none) Set.univ (p >>= k) Q))
    (hf : ¬ b = 1#1 → P ⊢ R) :
    P ⊢ iprop((R -∗ wp frame (wpE (defs₀ (F := F)) Variants.none (c : Thread nD τ) none) Set.univ (k ⟨⟩) Q)
      -∗ wp frame (wpE (defs₀ (F := F)) Variants.none (c : Thread nD τ) none) Set.univ (whenProg b p k) Q) := by
  unfold whenProg
  by_cases h : b = 1#1
  · rw [dif_pos h]; exact ht h
  · rw [dif_neg h]
    iintro HP Hk
    iapply Hk
    iapply (hf h) $$ HP

/-- The write-back of two carried vectors, where its condition holds. -/
theorem back_wp {α : Type} {Q : α → sProp 𝕄} {b : BitVec 1} {k : PUnit → Prog (TpuEff nD τ sig (Elt F) Λ₀ .tc) α} (ra rb : Memref sig .tc .vmem S64x256 .f32) (x y A B : FVec F S64x256 .f32) :
    iprop(owns (c : Thread nD τ) ra fullShare A ∗ owns (c : Thread nD τ) rb fullShare B)
      ⊢ iprop((owns (c : Thread nD τ) ra fullShare (if b = 1#1 then x else A) ∗ owns (c : Thread nD τ) rb fullShare (if b = 1#1 then y else B)
          -∗ wp frame (wpE (defs₀ (F := F)) Variants.none (c : Thread nD τ) none) Set.univ (k ⟨⟩) Q)
        -∗ wp frame (wpE (defs₀ (F := F)) Variants.none (c : Thread nD τ) none) Set.univ (whenProg b (backProg ra rb x y) k) Q) := by
  refine when_wp c (fun h => ?_) (fun h => ?_)
  · rw [if_pos h, if_pos h]
    iintro ⟨Ha, Hb⟩ Hk
    unfold backProg
    simp only [Prog.bind_assoc]
    iapply (ld c ra A) $$ Ha
    iintro Ha
    iapply (stv c ra A) $$ Ha
    iintro Ha
    iapply (ld c rb B) $$ Hb
    iintro Hb
    iapply (stv c rb B) $$ Hb
    iintro Hb
    iapply Hk
    isplitl [Ha]
    · iexact Ha
    · iexact Hb
  · rw [if_neg h, if_neg h]

/-- The set-up of the first grid point. -/
theorem init_wp {α : Type} {Q : α → sProp 𝕄} (i : grid0.Coords) {k : PUnit → Prog (TpuEff nD τ sig (Elt F) Λ₀ .tc) α} (arg15 : Memref sig .tc .vmem S2x32x64x256 .f32)
    (arg17 arg18 arg19 arg20 : Memref sig .tc .vmem S64x256 .f32) (B : Vec F S2x32x64x256 .f32) (st : St F) :
    iprop(owns (c : Thread nD τ) arg15 fullShare B ∗ owns (c : Thread nD τ) arg17 fullShare st.h0 ∗ owns (c : Thread nD τ) arg18 fullShare st.c0 ∗ owns (c : Thread nD τ) arg19 fullShare st.h1 ∗ owns (c : Thread nD τ) arg20 fullShare st.c1)
      ⊢ iprop((owns (c : Thread nD τ) arg15 fullShare (bufStart i B) ∗ owns (c : Thread nD τ) arg17 fullShare (st.start i).h0 ∗ owns (c : Thread nD τ) arg18 fullShare (st.start i).c0 ∗ owns (c : Thread nD τ) arg19 fullShare (st.start i).h1 ∗ owns (c : Thread nD τ) arg20 fullShare (st.start i).c1
          -∗ wp frame (wpE (defs₀ (F := F)) Variants.none (c : Thread nD τ) none) Set.univ (k ⟨⟩) Q)
        -∗ wp frame (wpE (defs₀ (F := F)) Variants.none (c : Thread nD τ) none) Set.univ (whenProg (isFirst i) (initProg arg15 arg17 arg18 arg19 arg20) k) Q) := by
  unfold bufStart St.start
  refine when_wp c (fun h => ?_) (fun h => ?_)
  · simp only [if_pos h]
    iintro ⟨H15, H17, H18, H19, H20⟩ Hk
    unfold initProg
    simp only [Prog.bind_assoc]
    iapply (ld c arg17 _) $$ H17
    iintro H17
    iapply (stv c arg17 _) $$ H17
    iintro H17
    iapply (ld c arg18 _) $$ H18
    iintro H18
    iapply (stv c arg18 _) $$ H18
    iintro H18
    iapply (ld c arg19 _) $$ H19
    iintro H19
    iapply (stv c arg19 _) $$ H19
    iintro H19
    iapply (ld c arg20 _) $$ H20
    iintro H20
    iapply (stv c arg20 _) $$ H20
    iintro H20
    iapply (ldw c arg15 B) $$ H15
    iintro H15
    iapply (stw c arg15 B) $$ H15
    iintro H15
    iapply Hk
    isplitl [H15]
    · iexact H15
    isplitl [H17]
    · iexact H17
    isplitl [H18]
    · iexact H18
    isplitl [H19]
    · iexact H19
    · iexact H20
  · simp only [if_neg h]
    exact .rfl

/-- Two vectors are written as the rows of a final state. -/
theorem rows_wp {α : Type} {Q : α → sProp 𝕄} (arg : Memref sig .tc .vmem S2x64x256 .f32) (r : Memref sig .tc .vmem S64x256 .f32) (Y : Vec F S2x64x256 .f32) (a b : FVec F S64x256 .f32)
    {k : PUnit → Prog (TpuEff nD τ sig (Elt F) Λ₀ .tc) α} :
    iprop(owns (c : Thread nD τ) arg fullShare Y ∗ owns (c : Thread nD τ) r fullShare a)
      ⊢ iprop((owns (c : Thread nD τ) arg fullShare (twoRows Y a b) ∗ owns (c : Thread nD τ) r fullShare a
          -∗ wp frame (wpE (defs₀ (F := F)) Variants.none (c : Thread nD τ) none) Set.univ (k ⟨⟩) Q)
        -∗ wp frame (wpE (defs₀ (F := F)) Variants.none (c : Thread nD τ) none) Set.univ (rowsProg arg r b >>= k) Q) := by
  iintro ⟨H, Hr⟩ Hk
  unfold rowsProg
  simp only [Prog.bind_assoc]
  iapply (ld c r a) $$ Hr
  iintro Hr
  iapply (ldw c arg Y) $$ H
  iintro H
  iapply (stw c arg Y) $$ H
  iintro H
  iapply (ldw c arg _) $$ H
  iintro H
  iapply (stw c arg _) $$ H
  iintro H
  iapply Hk
  isplitl [H]
  · iexact H
  · iexact Hr

/-- The final states are written out at the last grid point. -/
theorem final_wp {α : Type} {Q : α → sProp 𝕄} (i : grid0.Coords) (I : Ins F) (arg11 arg12 : Memref sig .tc .vmem S2x64x256 .f32) (arg17 arg18 : Memref sig .tc .vmem S64x256 .f32)
    (Y11 Y12 : Vec F S2x64x256 .f32) (B : Vec F S2x32x64x256 .f32) (st : St F) {k : PUnit → Prog (TpuEff nD τ sig (Elt F) Λ₀ .tc) α} :
    iprop(owns (c : Thread nD τ) arg11 fullShare Y11 ∗ owns (c : Thread nD τ) arg12 fullShare Y12 ∗ owns (c : Thread nD τ) arg17 fullShare (I.carry i B st).h0 ∗ owns (c : Thread nD τ) arg18 fullShare (I.carry i B st).c0)
      ⊢ iprop((owns (c : Thread nD τ) arg11 fullShare (I.hnBlk i B st Y11) ∗ owns (c : Thread nD τ) arg12 fullShare (I.cnBlk i B st Y12) ∗ owns (c : Thread nD τ) arg17 fullShare (I.carry i B st).h0 ∗ owns (c : Thread nD τ) arg18 fullShare (I.carry i B st).c0
          -∗ wp frame (wpE (defs₀ (F := F)) Variants.none (c : Thread nD τ) none) Set.univ (k ⟨⟩) Q)
        -∗ wp frame (wpE (defs₀ (F := F)) Variants.none (c : Thread nD τ) none) Set.univ
          (whenProg (k0_cond4 i) (finalProg arg11 arg12 arg17 arg18 (I.fin i B st).h1 (I.fin i B st).c1) k) Q) := by
  unfold Ins.hnBlk Ins.cnBlk
  generalize (I.carry i B st).h0 = h0, (I.carry i B st).c0 = c0, (I.fin i B st).h1 = h1, (I.fin i B st).c1 = c1
  refine when_wp c (fun h => ?_) (fun h => ?_)
  · simp only [if_pos h]
    iintro ⟨H11, H12, H17, H18⟩ Hk
    unfold finalProg
    rw [Prog.bind_assoc]
    iapply (rows_wp c arg11 arg17 Y11 h0 h1) $$ [H11 H17]
    · isplitl [H11]
      · iexact H11
      · iexact H17
    iintro ⟨H11, H17⟩
    iapply (rows_wp c arg12 arg18 Y12 c0 c1) $$ [H12 H18]
    · isplitl [H12]
      · iexact H12
      · iexact H18
    iintro ⟨H12, H18⟩
    iapply Hk
    isplitl [H11]
    · iexact H11
    isplitl [H12]
    · iexact H12
    isplitl [H17]
    · iexact H17
    · iexact H18
  · simp only [if_neg h]
    exact .rfl

end Pieces

/-! ## The body -/

/-- The triple of a grid point's body. -/
theorem body_wp (c : Dev nD) (i : grid0.Coords) (arg1 : Memref sig .tc .vmem S64x32x128 .f32) (arg2 : Memref sig .tc .vmem S128x1024 .f32) (arg3 : Memref sig .tc .vmem S256x1024 .f32) (arg4 : Memref sig .tc .vmem S1x1024 .f32) (arg5 : Memref sig .tc .vmem S256x1024 .f32) (arg6 : Memref sig .tc .vmem S256x1024 .f32) (arg7 : Memref sig .tc .vmem S1x1024 .f32) (arg8 : Memref sig .tc .vmem S64x256 .f32) (arg9 : Memref sig .tc .vmem S64x256 .f32) (arg10 : Memref sig .tc .vmem S64x32x256 .f32) (arg11 : Memref sig .tc .vmem S2x64x256 .f32) (arg12 : Memref sig .tc .vmem S2x64x256 .f32) (arg13 : Memref sig .tc .vmem S32x64x1024 .f32) (arg14 : Memref sig .tc .vmem S32x64x1024 .f32) (arg15 : Memref sig .tc .vmem S2x32x64x256 .f32) (arg16 : Memref sig .tc .vmem S32x64x256 .f32) (arg17 : Memref sig .tc .vmem S64x256 .f32) (arg18 : Memref sig .tc .vmem S64x256 .f32) (arg19 : Memref sig .tc .vmem S64x256 .f32) (arg20 : Memref sig .tc .vmem S64x256 .f32) (I : Ins F) (st : St F)
    (Y10 : Vec F S64x32x256 .f32) (Y11 Y12 : Vec F S2x64x256 .f32) (Z13 Z14 : Vec F S32x64x1024 .f32) (B : Vec F S2x32x64x256 .f32) (O : Vec F S32x64x256 .f32)
    (Q : PUnit → sProp 𝕄) :
    iprop(owns (c : Thread nD τ) arg1 fullShare I.x ∗ owns (c : Thread nD τ) arg2 fullShare I.w0 ∗ owns (c : Thread nD τ) arg3 fullShare I.r0 ∗ owns (c : Thread nD τ) arg4 fullShare I.b0 ∗ owns (c : Thread nD τ) arg5 fullShare I.w1 ∗ owns (c : Thread nD τ) arg6 fullShare I.r1 ∗ owns (c : Thread nD τ) arg7 fullShare I.b1 ∗ owns (c : Thread nD τ) arg8 fullShare I.m0 ∗ owns (c : Thread nD τ) arg9 fullShare I.m1 ∗ owns (c : Thread nD τ) arg10 fullShare Y10 ∗ owns (c : Thread nD τ) arg11 fullShare Y11 ∗ owns (c : Thread nD τ) arg12 fullShare Y12 ∗ owns (c : Thread nD τ) arg13 fullShare Z13 ∗ owns (c : Thread nD τ) arg14 fullShare Z14 ∗ owns (c : Thread nD τ) arg15 fullShare B ∗ owns (c : Thread nD τ) arg16 fullShare O ∗ owns (c : Thread nD τ) arg17 fullShare st.h0 ∗ owns (c : Thread nD τ) arg18 fullShare st.c0 ∗ owns (c : Thread nD τ) arg19 fullShare st.h1 ∗ owns (c : Thread nD τ) arg20 fullShare st.c1
      ∗ (owns (c : Thread nD τ) arg1 fullShare I.x ∗ owns (c : Thread nD τ) arg2 fullShare I.w0 ∗ owns (c : Thread nD τ) arg3 fullShare I.r0 ∗ owns (c : Thread nD τ) arg4 fullShare I.b0 ∗ owns (c : Thread nD τ) arg5 fullShare I.w1 ∗ owns (c : Thread nD τ) arg6 fullShare I.r1 ∗ owns (c : Thread nD τ) arg7 fullShare I.b1 ∗ owns (c : Thread nD τ) arg8 fullShare I.m0 ∗ owns (c : Thread nD τ) arg9 fullShare I.m1 ∗ owns (c : Thread nD τ) arg10 fullShare (I.outBlk i B O st) ∗ owns (c : Thread nD τ) arg11 fullShare (I.hnBlk i B st Y11) ∗ owns (c : Thread nD τ) arg12 fullShare (I.cnBlk i B st Y12) ∗ owns (c : Thread nD τ) arg13 fullShare I.xw0 ∗ owns (c : Thread nD τ) arg14 fullShare (I.xw1 (I.pBlk i B)) ∗ owns (c : Thread nD τ) arg15 fullShare (I.bufB i B st) ∗ owns (c : Thread nD τ) arg16 fullShare (I.bufOut i B O st) ∗ owns (c : Thread nD τ) arg17 fullShare (I.carry i B st).h0 ∗ owns (c : Thread nD τ) arg18 fullShare (I.carry i B st).c0 ∗ owns (c : Thread nD τ) arg19 fullShare (I.carry i B st).h1 ∗ owns (c : Thread nD τ) arg20 fullShare (I.carry i B st).c1 -∗ Q ⟨⟩))
      ⊢ wp frame (wpE (defs₀ (F := F)) Variants.none (c : Thread nD τ) none) Set.univ (bodyProg i arg1 arg2 arg3 arg4 arg5 arg6 arg7 arg8 arg9 arg10 arg11 arg12 arg13 arg14 arg15 arg16 arg17 arg18 arg19 arg20) Q := by
  iintro ⟨H1, H2, H3, H4, H5, H6, H7, H8, H9, H10, H11, H12, H13, H14, H15, H16, H17, H18, H19, H20, Hk⟩
  unfold bodyProg
  iapply (init_wp c i arg15 arg17 arg18 arg19 arg20 B st) $$ [H15 H17 H18 H19 H20]
  · isplitl [H15]
    · iexact H15
    isplitl [H17]
    · iexact H17
    isplitl [H18]
    · iexact H18
    isplitl [H19]
    · iexact H19
    · iexact H20
  iintro ⟨H15, H17, H18, H19, H20⟩
  unfold inProg preProg
  simp only [Prog.bind_assoc]
  iapply (ldw c arg15 _) $$ H15
  iintro H15
  iapply (ld c arg5 _) $$ H5
  iintro H5
  iapply (ld c arg7 _) $$ H7
  iintro H7
  iapply (ld c arg14 Z14) $$ H14
  iintro H14
  iapply (stv c arg14 Z14) $$ H14
  iintro H14
  iapply (ld c arg1 _) $$ H1
  iintro H1
  iapply (ld c arg2 _) $$ H2
  iintro H2
  iapply (ld c arg4 _) $$ H4
  iintro H4
  iapply (ld c arg13 Z13) $$ H13
  iintro H13
  iapply (stv c arg13 Z13) $$ H13
  iintro H13
  iapply (ld c arg3 _) $$ H3
  iintro H3
  iapply (ld c arg6 _) $$ H6
  iintro H6
  iapply (ld c arg8 _) $$ H8
  iintro H8
  iapply (ld c arg9 _) $$ H9
  iintro H9
  iapply (ld c arg17 _) $$ H17
  iintro H17
  iapply (ld c arg18 _) $$ H18
  iintro H18
  iapply (ld c arg19 _) $$ H19
  iintro H19
  iapply (ld c arg20 _) $$ H20
  iintro H20
  iapply (loop_wp c arg13 arg14 arg15 arg16 (slot i) (slot_lt i) (k0_pay13 I.r0) (k0_pay14 I.r1) I.m0 I.m1 I.xw0 (I.xw1 (I.pBlk i B)) (st.start i) (bufStart i B) O _ Q 32 0 (by decide) 32 rfl)
  isplitl [H13]
  · iexact H13
  isplitl [H14]
  · iexact H14
  isplitl [H15]
  · iexact H15
  isplitl [H16]
  · iexact H16
  iintro H13 H14 H15 H16
  unfold postProg
  iapply (back_wp c arg17 arg18 _ _ _ _) $$ [H17 H18]
  · isplitl [H17]
    · iexact H17
    · iexact H18
  iintro ⟨H17, H18⟩
  iapply (back_wp c arg19 arg20 _ _ _ _) $$ [H19 H20]
  · isplitl [H19]
    · iexact H19
    · iexact H20
  iintro ⟨H19, H20⟩
  iapply (ld c arg16 _) $$ H16
  iintro H16
  iapply (ld c arg10 Y10) $$ H10
  iintro H10
  iapply (stv c arg10 Y10) $$ H10
  iintro H10
  iapply (final_wp c i I arg11 arg12 arg17 arg18 Y11 Y12 B st) $$ [H11 H12 H17 H18]
  · isplitl [H11]
    · iexact H11
    isplitl [H12]
    · iexact H12
    isplitl [H17]
    · iexact H17
    · iexact H18
  iintro ⟨H11, H12, H17, H18⟩
  iapply (ret_intro (defs := defs₀ (F := F)) Variants.none (c : Thread nD τ) none Set.univ (Q := Q) PUnit.unit)
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  · iexact H20

end Cert.KernelIdeal.Body
-- ==== Proof.Point.lean ====
/-
  A grid point in pure terms: the carried state, the chunk handed from layer 0 to layer 1, the blocks written, and the closed forms of the body's conditions and offsets over the points.
-/
module

public import proofs.«01_k».proof.Proof.Body

@[expose] public section

set_option maxRecDepth 16384

noncomputable section

namespace Cert.KernelIdeal.Body

open Cert.KernelIdeal.Gen Cert.Rules
open Idealize.ShloMosaic Idealize.ShloMosaic.TcCoe Idealize.ShloMosaic.Tactic
open Idealize.SL Idealize.SL.RA Idealize.SL.BI

variable {F : FTy → Type} [FloatOps F]

/-! ## Conditions and offsets over the grid -/

/-- The kernel's first test holds at the first point only. -/
theorem first_iff : ∀ t : Fin cfg0.N, isFirst (grid0.coords t) = 1#1 ↔ t.val = 0 := by decide +kernel
/-- Layer 0's state is stored at every point but the last. -/
theorem hasL0_iff : ∀ t : Fin cfg0.N, hasL0 (BitVec.ofNat 32 (grid0.coords t 0).val) = 1#1 ↔ t.val < 64 := by decide +kernel
/-- Layer 1's state is stored at every point but the first. -/
theorem hasL1_iff : ∀ t : Fin cfg0.N, hasL1 (BitVec.ofNat 32 (grid0.coords t 0).val) = 1#1 ↔ 0 < t.val := by decide +kernel
/-- The final states are stored at the last point only. -/
theorem last_iff : ∀ t : Fin cfg0.N, k0_cond4 (grid0.coords t) = 1#1 ↔ t.val = 64 := by decide +kernel
/-- The half of the double buffer that a point writes. -/
theorem slot_eq : ∀ t : Fin cfg0.N, slot (grid0.coords t) = t.val % 2 := by decide +kernel
/-- The half of the double buffer that a point reads is the other one. -/
theorem off1_eq : ∀ t : Fin cfg0.N, k0_off1 (grid0.coords t) = ![(t.val + 1) % 2, 0, 0, 0] := by decide +kernel
/-- No point but the last touches the final hidden states. -/
theorem idle10 : ∀ t : Fin cfg0.N, t.val ≠ 64 → cfg0.idle 10 (grid0.coords t) = true := by decide +kernel
/-- No point but the last touches the final cell states. -/
theorem idle11 : ∀ t : Fin cfg0.N, t.val ≠ 64 → cfg0.idle 11 (grid0.coords t) = true := by decide +kernel
/-- The last point writes the final hidden states. -/
theorem live10 : ∀ t : Fin cfg0.N, t.val = 64 → cfg0.idle 10 (grid0.coords t) = false := by decide +kernel
/-- The last point writes the final cell states. -/
theorem live11 : ∀ t : Fin cfg0.N, t.val = 64 → cfg0.idle 11 (grid0.coords t) = false := by decide +kernel
/-- The final hidden states are not written back before the last point. -/
theorem noFlush10 (t : Fin cfg0.N) (h : t.val ≠ 64) : (cfg0.win 10).flush t = false := by
  have ht : t.val < 65 := Nat.lt_of_lt_of_eq t.isLt N_0
  exact Bool.eq_false_iff.mpr fun hf => h (by have := (flush0_10 t).mp hf; omega)
/-- The final cell states are not written back before the last point. -/
theorem noFlush11 (t : Fin cfg0.N) (h : t.val ≠ 64) : (cfg0.win 11).flush t = false := by
  have ht : t.val < 65 := Nat.lt_of_lt_of_eq t.isLt N_0
  exact Bool.eq_false_iff.mpr fun hf => h (by have := (flush0_11 t).mp hf; omega)

/-! ## Same-shape reshapes and rows -/

/-- Layer 0's masked row, by its entries. -/
theorem maskP_at (h m : FVec F S64x256 .f32) (a b : Fin 1) (c : Fin 64) (d : Fin 256) : maskP h m (ix4 a b c d) = mulf h m (ix2 c d) := by
  pointwise [maskP]
/-- Layer 1's masked row, by its entries. -/
theorem maskO_at (h m : FVec F S64x256 .f32) (a : Fin 1) (c : Fin 64) (d : Fin 256) : maskO h m (ix3 a c d) = mulf h m (ix2 c d) := by
  pointwise [maskO]
/-- A state as a row, by its entries. -/
theorem asRow_at (h : FVec F S64x256 .f32) (a : Fin 1) (c : Fin 64) (d : Fin 256) : asRow h (ix3 a c d) = h (ix2 c d) := by
  pointwise [asRow]

/-- The first stored state is stored as it is. -/
theorem pay271_eq (x : FVec F S64x256 .f32) : k0_pay271 x = x := by
  funext j; idx_vars j; pointwise [k0_pay271]
/-- The second stored state is stored as it is. -/
theorem pay272_eq (x : FVec F S64x256 .f32) : k0_pay272 x = x := by
  funext j; idx_vars j; pointwise [k0_pay272]
/-- The third stored state is stored as it is. -/
theorem pay273_eq (x : FVec F S64x256 .f32) : k0_pay273 x = x := by
  funext j; idx_vars j; pointwise [k0_pay273]
/-- The fourth stored state is stored as it is. -/
theorem pay274_eq (x : FVec F S64x256 .f32) : k0_pay274 x = x := by
  funext j; idx_vars j; pointwise [k0_pay274]

/-! ## What the buffers hold after a point, free of what they held before -/

/-- The chunk of layer 0's masked hidden states that a run leaves for the next point. -/
def newP (run : ℕ → St F) (m0 : FVec F S64x256 .f32) : Vec F S1x32x64x256 .f32 := fun y => mulf (run ((y 1).val + 1)).h0 m0 (ix2 (y 2) (y 3))

/-- The chunk of layer 1's masked hidden states that a run leaves in the output buffer. -/
def newO (run : ℕ → St F) (m1 : FVec F S64x256 .f32) : Vec F S32x64x256 .f32 := fun y => mulf (run ((y 0).val + 1)).h1 m1 (ix2 (y 1) (y 2))

/-- Two vectors as the rows of a final state. -/
def rows (a b : FVec F S64x256 .f32) : Vec F S2x64x256 .f32 := fun y => if (y 0).val = 0 then a (ix2 (y 1) (y 2)) else b (ix2 (y 1) (y 2))

/-- An entry of the chunk handed to layer 1, once its step is past. -/
theorem bufP_at (w0 w1 : FVec F S256x1024 .f32) (X0 X1 : Vec F S32x64x1024 .f32) (st : St F) (m0 : FVec F S64x256 .f32) (sl : ℕ) (B : Vec F S2x32x64x256 .f32)
    (y : S2x32x64x256.Idx) (hy : (y 0).val = sl) :
    ∀ k, (y 1).val < k → bufP w0 w1 X0 X1 st m0 sl B k y = mulf (stAt w0 w1 X0 X1 st ((y 1).val + 1)).h0 m0 (ix2 (y 2) (y 3))
  | 0, h => absurd h (by omega)
  | k + 1, h => by
    unfold bufP VecWindow.put
    by_cases hk : (y 1).val = k
    · have hin : ∀ a, (![sl, k, 0, 0] : Fin 4 → ℕ) a ≤ (y a).val ∧ (y a).val < (![sl, k, 0, 0] : Fin 4 → ℕ) a + S1x1x64x256.size a := fun a => by
        match a with
        | ⟨0, _⟩ => exact ⟨hy.ge, by show (y 0).val < sl + 1; omega⟩
        | ⟨1, _⟩ => exact ⟨hk.ge, by show (y 1).val < k + 1; omega⟩
        | ⟨2, _⟩ => exact ⟨Nat.zero_le _, by have := (y 2).isLt; show (y 2).val < 0 + 64; exact Nat.lt_of_lt_of_eq this rfl⟩
        | ⟨3, _⟩ => exact ⟨Nat.zero_le _, by have := (y 3).isLt; show (y 3).val < 0 + 256; exact Nat.lt_of_lt_of_eq this rfl⟩
      rw [dif_pos hin]
      subst hk
      refine Eq.trans (congrArg (maskP (stAt w0 w1 X0 X1 st ((y 1).val + 1)).h0 m0) (?_ : (_ : S1x1x64x256.Idx) = ix4 0 0 (y 2) (y 3))) (maskP_at _ _ _ _ _ _)
      refine funext fun a => Fin.ext ?_
      match a with
      | ⟨0, _⟩ => show (y 0).val - sl = 0; omega
      | ⟨1, _⟩ => show (y 1).val - (y 1).val = 0; omega
      | ⟨2, _⟩ => rfl
      | ⟨3, _⟩ => rfl
    · rw [dif_neg (fun hin => hk (by have := hin 1; have h1 : (y 1).val < k + 1 := this.2; have h2 : k ≤ (y 1).val := this.1; omega))]
      exact bufP_at w0 w1 X0 X1 st m0 sl B y hy k (by omega)

/-- The chunk handed to layer 1, after all steps. -/
theorem bufP_window (w0 w1 : FVec F S256x1024 .f32) (X0 X1 : Vec F S32x64x1024 .f32) (st : St F) (m0 : FVec F S64x256 .f32) (sl : ℕ) (B : Vec F S2x32x64x256 .f32)
    (off : Fin 4 → ℕ) (ho : off = ![sl, 0, 0, 0]) (inb : ∀ a, off a + S1x32x64x256.size a ≤ S2x32x64x256.size a) :
    VecWindow.window (bufP w0 w1 X0 X1 st m0 sl B 32) off S1x32x64x256.size inb = newP (stAt w0 w1 X0 X1 st) m0 := by
  subst ho
  funext y
  have h0 : (y 0).val < 1 := (y 0).isLt
  have e1 : ((Rect.unit (s := S2x32x64x256) ![sl, 0, 0, 0] S1x32x64x256.size inb).emb y 1).val = (y 1).val := by show 0 + 1 * (y 1).val = _; omega
  have h1 : (y 1).val < 32 := (y 1).isLt
  refine (bufP_at w0 w1 X0 X1 st m0 sl B ((Rect.unit (s := S2x32x64x256) ![sl, 0, 0, 0] S1x32x64x256.size inb).emb y) (by show sl + 1 * (y 0).val = sl; omega) 32 (by omega)).trans ?_
  unfold newP
  rw [e1]
  refine congrArg _ (funext fun a => Fin.ext ?_)
  match a with
  | ⟨0, _⟩ => show 0 + 1 * (y 2).val = (y 2).val; omega
  | ⟨1, _⟩ => show 0 + 1 * (y 3).val = (y 3).val; omega

/-- An entry of the output buffer, once its step is past. -/
theorem bufO_at (w0 w1 : FVec F S256x1024 .f32) (X0 X1 : Vec F S32x64x1024 .f32) (st : St F) (m1 : FVec F S64x256 .f32) (O : Vec F S32x64x256 .f32)
    (y : S32x64x256.Idx) :
    ∀ k, (y 0).val < k → bufO w0 w1 X0 X1 st m1 O k y = mulf (stAt w0 w1 X0 X1 st ((y 0).val + 1)).h1 m1 (ix2 (y 1) (y 2))
  | 0, h => absurd h (by omega)
  | k + 1, h => by
    unfold bufO VecWindow.put
    by_cases hk : (y 0).val = k
    · have hin : ∀ a, (![k, 0, 0] : Fin 3 → ℕ) a ≤ (y a).val ∧ (y a).val < (![k, 0, 0] : Fin 3 → ℕ) a + S1x64x256.size a := fun a => by
        match a with
        | ⟨0, _⟩ => exact ⟨hk.ge, by show (y 0).val < k + 1; omega⟩
        | ⟨1, _⟩ => exact ⟨Nat.zero_le _, by have := (y 1).isLt; show (y 1).val < 0 + 64; exact Nat.lt_of_lt_of_eq this rfl⟩
        | ⟨2, _⟩ => exact ⟨Nat.zero_le _, by have := (y 2).isLt; show (y 2).val < 0 + 256; exact Nat.lt_of_lt_of_eq this rfl⟩
      rw [dif_pos hin]
      subst hk
      refine Eq.trans (congrArg (maskO (stAt w0 w1 X0 X1 st ((y 0).val + 1)).h1 m1) (?_ : (_ : S1x64x256.Idx) = ix3 0 (y 1) (y 2))) (maskO_at _ _ _ _ _)
      refine funext fun a => Fin.ext ?_
      match a with
      | ⟨0, _⟩ => show (y 0).val - (y 0).val = 0; omega
      | ⟨1, _⟩ => rfl
      | ⟨2, _⟩ => rfl
    · rw [dif_neg (fun hin => hk (by have := hin 0; have h1 : (y 0).val < k + 1 := this.2; have h2 : k ≤ (y 0).val := this.1; omega))]
      exact bufO_at w0 w1 X0 X1 st m1 O y k (by omega)

/-- The output buffer after all steps. -/
theorem bufO_eq (w0 w1 : FVec F S256x1024 .f32) (X0 X1 : Vec F S32x64x1024 .f32) (st : St F) (m1 : FVec F S64x256 .f32) (O : Vec F S32x64x256 .f32) :
    bufO w0 w1 X0 X1 st m1 O 32 = newO (stAt w0 w1 X0 X1 st) m1 :=
  funext fun y => bufO_at w0 w1 X0 X1 st m1 O y 32 (Nat.lt_of_lt_of_eq (y 0).isLt rfl)

/-- Storing one row changes that row only. -/
theorem put_row_at (X : Vec F S2x64x256 .f32) (r : ℕ) (a : FVec F S64x256 .f32) (y : S2x64x256.Idx) :
    VecWindow.put X ![r, 0, 0] S1x64x256.size (asRow a) y = if (y 0).val = r then a (ix2 (y 1) (y 2)) else X y := by
  unfold VecWindow.put
  by_cases hk : (y 0).val = r
  · have hin : ∀ a, (![r, 0, 0] : Fin 3 → ℕ) a ≤ (y a).val ∧ (y a).val < (![r, 0, 0] : Fin 3 → ℕ) a + S1x64x256.size a := fun a => by
      match a with
      | ⟨0, _⟩ => exact ⟨hk.ge, by show (y 0).val < r + 1; omega⟩
      | ⟨1, _⟩ => exact ⟨Nat.zero_le _, by have := (y 1).isLt; show (y 1).val < 0 + 64; exact Nat.lt_of_lt_of_eq this rfl⟩
      | ⟨2, _⟩ => exact ⟨Nat.zero_le _, by have := (y 2).isLt; show (y 2).val < 0 + 256; exact Nat.lt_of_lt_of_eq this rfl⟩
    rw [dif_pos hin, if_pos hk]
    refine Eq.trans (congrArg (asRow a) (?_ : (_ : S1x64x256.Idx) = ix3 0 (y 1) (y 2))) (asRow_at _ _ _ _)
    refine funext fun a => Fin.ext ?_
    match a with
    | ⟨0, _⟩ => show (y 0).val - r = 0; omega
    | ⟨1, _⟩ => rfl
    | ⟨2, _⟩ => rfl
  · rw [dif_neg (fun hin => hk (by have := hin 0; have h1 : (y 0).val < r + 1 := this.2; have h2 : r ≤ (y 0).val := this.1; omega)), if_neg hk]

/-- Storing both rows leaves nothing of what was there. -/
theorem twoRows_eq (Y : Vec F S2x64x256 .f32) (a b : FVec F S64x256 .f32) : twoRows Y a b = rows a b := by
  funext y
  have h0 : (y 0).val < 2 := (y 0).isLt
  unfold twoRows rows
  rw [put_row_at, put_row_at]
  by_cases h : (y 0).val = 0
  · rw [if_neg (by omega), if_pos h, if_pos h]
  · rw [if_pos (by omega), if_neg h]

/-! ## The carried state -/

/-- What a point takes over: the chunk handed to layer 1, and the state of both layers. -/
structure Car (F : FTy → Type) where
  p : Vec F S1x32x64x256 .f32
  st : St F

/-- The states at each step of a point. -/
def Ins.steps (I : Ins F) (C : Car F) : ℕ → St F := I.run C.p C.st

/-- What point `n` hands on: layer 0's state while it has chunks, layer 1's from the second point on. -/
def Ins.next (I : Ins F) (n : ℕ) (C : Car F) : Car F :=
  ⟨newP (I.steps C) I.m0,
    ⟨if n < 64 then (I.steps C 32).c0 else C.st.c0, if n < 64 then (I.steps C 32).h0 else C.st.h0,
      if 0 < n then (I.steps C 32).c1 else C.st.c1, if 0 < n then (I.steps C 32).h1 else C.st.h1⟩⟩

/-- What the first point takes over: zeros. -/
def Car.zero : Car F := ⟨k0_pay9, St.zero⟩

/-- What the buffers hold before point `t`: anything at the first, what the last point handed on afterwards. -/
def Agrees (t : Fin cfg0.N) (C : Car F) (B : Vec F S2x32x64x256 .f32) (st : St F) : Prop :=
  (t.val = 0 ∧ C = Car.zero) ∨ (0 < t.val ∧ st = C.st ∧ VecWindow.window B (k0_off1 (grid0.coords t)) S1x32x64x256.size (k0_off1_inb (grid0.coords t)) = C.p)

variable {t : Fin cfg0.N} {C : Car F} {B : Vec F S2x32x64x256 .f32} {st : St F}

/-- A point starts from the carried states. -/
theorem start_eq (h : Agrees t C B st) : st.start (grid0.coords t) = C.st := by
  unfold St.start
  rcases h with ⟨h0, rfl⟩ | ⟨h0, rfl, -⟩
  · simp only [if_pos ((first_iff t).mpr h0)]; rfl
  · simp only [if_neg (fun hf => absurd ((first_iff t).mp hf) (by omega))]

/-- A point reads the carried chunk. -/
theorem pBlk_eq (I : Ins F) (h : Agrees t C B st) : I.pBlk (grid0.coords t) B = C.p := by
  unfold Ins.pBlk bufStart
  rcases h with ⟨h0, rfl⟩ | ⟨h0, -, h2⟩
  · rw [if_pos ((first_iff t).mpr h0)]
    have key : ∀ (off : Fin 4 → ℕ) (ho : off = ![1, 0, 0, 0]) (inb : ∀ a, off a + S1x32x64x256.size a ≤ S2x32x64x256.size a),
        VecWindow.window (VecWindow.put B ![1, 0, 0, 0] S1x32x64x256.size (k0_pay9 (F := F))) off S1x32x64x256.size inb = (Car.zero (F := F)).p := by
      intro off ho inb
      subst ho
      exact VecWindow.window_put_same _ _ _ _ _
    exact key _ ((off1_eq t).trans (by rw [h0])) _
  · rw [if_neg (fun hf => absurd ((first_iff t).mp hf) (by omega))]
    exact h2

/-- A point's last states are its thirty-two steps from what is carried. -/
theorem fin_eq (I : Ins F) (h : Agrees t C B st) : I.fin (grid0.coords t) B st = I.steps C 32 := by
  unfold Ins.fin Ins.steps
  rw [start_eq h, pBlk_eq I h]

/-- The carried state a point leaves. -/
theorem carry_eq (I : Ins F) (h : Agrees t C B st) : I.carry (grid0.coords t) B st = (I.next t.val C).st := by
  unfold Ins.carry Ins.next
  rw [fin_eq I h, start_eq h, pay271_eq, pay272_eq, pay273_eq, pay274_eq]
  simp only [hasL0_iff t, hasL1_iff t]

/-- The output block a point leaves. -/
theorem outBlk_eq (I : Ins F) (h : Agrees t C B st) (O : Vec F S32x64x256 .f32) :
    I.outBlk (grid0.coords t) B O st = k0_pay275 (newO (I.steps C) I.m1) := by
  unfold Ins.outBlk Ins.bufOut
  rw [bufO_eq, start_eq h, pBlk_eq I h]
  rfl

/-- The chunk a point leaves in its slot. -/
theorem bufB_window (I : Ins F) (h : Agrees t C B st) (off : Fin 4 → ℕ) (ho : off = ![t.val % 2, 0, 0, 0])
    (inb : ∀ a, off a + S1x32x64x256.size a ≤ S2x32x64x256.size a) :
    VecWindow.window (I.bufB (grid0.coords t) B st) off S1x32x64x256.size inb = (I.next t.val C).p := by
  unfold Ins.bufB Ins.next
  rw [start_eq h, pBlk_eq I h]
  exact bufP_window _ _ _ _ _ _ _ _ off (ho.trans (by rw [slot_eq t])) inb

/-- The final states the last point leaves. -/
theorem hnBlk_eq (I : Ins F) (h : Agrees t C B st) (ht : t.val = 64) (Y : Vec F S2x64x256 .f32) :
    I.hnBlk (grid0.coords t) B st Y = rows (I.next t.val C).st.h0 (I.next t.val C).st.h1 := by
  unfold Ins.hnBlk
  rw [if_pos ((last_iff t).mpr ht), twoRows_eq, carry_eq I h, fin_eq I h]
  congr 1
  exact (if_pos (show 0 < t.val by omega)).symm

/-- The last point stores both layers' cell states. -/
theorem cnBlk_eq (I : Ins F) (h : Agrees t C B st) (ht : t.val = 64) (Y : Vec F S2x64x256 .f32) :
    I.cnBlk (grid0.coords t) B st Y = rows (I.next t.val C).st.c0 (I.next t.val C).st.c1 := by
  unfold Ins.cnBlk
  rw [if_pos ((last_iff t).mpr ht), twoRows_eq, carry_eq I h, fin_eq I h]
  congr 1
  exact (if_pos (show 0 < t.val by omega)).symm

/-- The other points leave the final hidden states. -/
theorem hnBlk_other (I : Ins F) (ht : t.val ≠ 64) (Y : Vec F S2x64x256 .f32) : I.hnBlk (grid0.coords t) B st Y = Y := by
  unfold Ins.hnBlk
  rw [if_neg (fun h => ht ((last_iff t).mp h))]

/-- The other points leave the final cell states. -/
theorem cnBlk_other (I : Ins F) (ht : t.val ≠ 64) (Y : Vec F S2x64x256 .f32) : I.cnBlk (grid0.coords t) B st Y = Y := by
  unfold Ins.cnBlk
  rw [if_neg (fun h => ht ((last_iff t).mp h))]

end Cert.KernelIdeal.Body
-- ==== Proof.Data.lean ====
/-
  The proof data of the launch: what each window's block and each carried buffer holds after every grid point, the body's obligation, the run, and the frame claim at any values.
-/
module

public import proofs.«01_k».proof.Proof.Point
public import Idealize.ShloMosaic.Lib.Claim

@[expose] public section

set_option maxRecDepth 16384

noncomputable section

namespace Cert.KernelIdeal.Body

open Cert.KernelIdeal.Gen Cert.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t⟩

/-- What point `n` takes over. -/
def carAt (c : Dev nD) : ℕ → Car F
  | 0 => Car.zero
  | n + 1 => if h : n < cfg0.N then (insAt m c ⟨n, h⟩).next n (carAt c n) else carAt c n

/-- What is carried after a point is that point's step of what was carried before. -/
theorem carAt_succ (c : Dev nD) (t : Fin cfg0.N) : carAt m c (t.val + 1) = (insAt m c t).next t.val (carAt m c t.val) := by
  show (if h : t.val < cfg0.N then _ else _) = _
  rw [dif_pos t.isLt]

/-- The output block of point `t`. -/
def outAt (c : Dev nD) (t : Fin cfg0.N) : Vec F S64x32x256 .f32 := k0_pay275 (newO ((insAt m c t).steps (carAt m c t.val)) (insAt m c t).m1)

/-- The final hidden states, as the carried state after point `t` has them. -/
def hnAt (c : Dev nD) (t : Fin cfg0.N) : Vec F S2x64x256 .f32 := rows (carAt m c (t.val + 1)).st.h0 (carAt m c (t.val + 1)).st.h1

/-- The final cell states, as the carried state after point `t` has them. -/
def cnAt (c : Dev nD) (t : Fin cfg0.N) : Vec F S2x64x256 .f32 := rows (carAt m c (t.val + 1)).st.c0 (carAt m c (t.val + 1)).st.c1

/-- The scratch buffers as memrefs owned at some contents, with the generator's register. -/
theorem PhiA_eq (c : Dev nD) :
    (Pipeline.ΦA spec0 c : sProp 𝕄)
      = iprop(iprop((∃ d, owns (c : Thread nD τ) (Memref.whole cc0_scratch0 : Memref sig .tc .vmem S32x64x1024 .f32) fullShare d) ∗ (∃ d, owns (c : Thread nD τ) (Memref.whole cc0_scratch1 : Memref sig .tc .vmem S32x64x1024 .f32) fullShare d) ∗ (∃ d, owns (c : Thread nD τ) (Memref.whole cc0_scratch2 : Memref sig .tc .vmem S2x32x64x256 .f32) fullShare d) ∗ (∃ d, owns (c : Thread nD τ) (Memref.whole cc0_scratch3 : Memref sig .tc .vmem S32x64x256 .f32) fullShare d) ∗ (∃ d, owns (c : Thread nD τ) (Memref.whole cc0_scratch4 : Memref sig .tc .vmem S64x256 .f32) fullShare d) ∗ (∃ d, owns (c : Thread nD τ) (Memref.whole cc0_scratch5 : Memref sig .tc .vmem S64x256 .f32) fullShare d) ∗ (∃ d, owns (c : Thread nD τ) (Memref.whole cc0_scratch6 : Memref sig .tc .vmem S64x256 .f32) fullShare d) ∗ (∃ d, owns (c : Thread nD τ) (Memref.whole cc0_scratch7 : Memref sig .tc .vmem S64x256 .f32) fullShare d)) ∗ (∃ r, prngReg c r)) := by
  unfold Pipeline.ΦA; rw [scopedRest0_eq]; simp only [owns_whole]; try rfl

/-- The window of the chunk buffer at a slot. -/
def slotWin (B : Vec F S2x32x64x256 .f32) (n : ℕ) : Vec F S1x32x64x256 .f32 :=
  VecWindow.window B ![n % 2, 0, 0, 0] S1x32x64x256.size (fun a => by
    have := Nat.mod_lt n (show 0 < 2 by decide)
    fin_cases a <;> simp [S1x32x64x256, S2x32x64x256] <;> omega)

/-- The invariant between points: the scratch at anything before the first; afterwards the carried states and the chunk just stored are named. -/
def PhiS (c : Dev nD) : ℕ → sProp 𝕄
  | 0 => Pipeline.ΦA spec0 c
  | n + 1 => iprop(iprop((∃ d, owns (c : Thread nD τ) (Memref.whole cc0_scratch0 : Memref sig .tc .vmem S32x64x1024 .f32) fullShare d) ∗ (∃ d, owns (c : Thread nD τ) (Memref.whole cc0_scratch1 : Memref sig .tc .vmem S32x64x1024 .f32) fullShare d) ∗ (∃ B, ⌜slotWin B n = (carAt m c (n + 1)).p⌝ ∗ owns (c : Thread nD τ) (Memref.whole cc0_scratch2 : Memref sig .tc .vmem S2x32x64x256 .f32) fullShare B) ∗ (∃ d, owns (c : Thread nD τ) (Memref.whole cc0_scratch3 : Memref sig .tc .vmem S32x64x256 .f32) fullShare d) ∗ owns (c : Thread nD τ) (Memref.whole cc0_scratch4 : Memref sig .tc .vmem S64x256 .f32) fullShare (carAt m c (n + 1)).st.h0 ∗ owns (c : Thread nD τ) (Memref.whole cc0_scratch5 : Memref sig .tc .vmem S64x256 .f32) fullShare (carAt m c (n + 1)).st.c0 ∗ owns (c : Thread nD τ) (Memref.whole cc0_scratch6 : Memref sig .tc .vmem S64x256 .f32) fullShare (carAt m c (n + 1)).st.h1 ∗ owns (c : Thread nD τ) (Memref.whole cc0_scratch7 : Memref sig .tc .vmem S64x256 .f32) fullShare (carAt m c (n + 1)).st.c1) ∗ (∃ r, prngReg c r))

/-- Before the first point nothing is known of the scratch buffers' contents. -/
theorem PhiS_zero (c : Dev nD) (n : ℕ) (hz : n = 0) : PhiS m c n = Pipeline.ΦA spec0 c := by subst hz; rfl

/-- After a point. -/
theorem PhiS_succ (c : Dev nD) (n : ℕ) :
    PhiS m c (n + 1) = iprop(iprop((∃ d, owns (c : Thread nD τ) (Memref.whole cc0_scratch0 : Memref sig .tc .vmem S32x64x1024 .f32) fullShare d) ∗ (∃ d, owns (c : Thread nD τ) (Memref.whole cc0_scratch1 : Memref sig .tc .vmem S32x64x1024 .f32) fullShare d) ∗ (∃ B, ⌜slotWin B n = (carAt m c (n + 1)).p⌝ ∗ owns (c : Thread nD τ) (Memref.whole cc0_scratch2 : Memref sig .tc .vmem S2x32x64x256 .f32) fullShare B) ∗ (∃ d, owns (c : Thread nD τ) (Memref.whole cc0_scratch3 : Memref sig .tc .vmem S32x64x256 .f32) fullShare d) ∗ owns (c : Thread nD τ) (Memref.whole cc0_scratch4 : Memref sig .tc .vmem S64x256 .f32) fullShare (carAt m c (n + 1)).st.h0 ∗ owns (c : Thread nD τ) (Memref.whole cc0_scratch5 : Memref sig .tc .vmem S64x256 .f32) fullShare (carAt m c (n + 1)).st.c0 ∗ owns (c : Thread nD τ) (Memref.whole cc0_scratch6 : Memref sig .tc .vmem S64x256 .f32) fullShare (carAt m c (n + 1)).st.h1 ∗ owns (c : Thread nD τ) (Memref.whole cc0_scratch7 : Memref sig .tc .vmem S64x256 .f32) fullShare (carAt m c (n + 1)).st.c1) ∗ (∃ r, prngReg c r)) := rfl

/-- The proof data: inputs are left in place, outputs and scratch hold what the points compute. -/
def dats (_ : Fin 1) (c : Dev nD) : Dat τ (Elt F) Unit ℕ (UR sig nD τ) ℕ cfg0 c where
  A w := V m c (Pipeline.arrRef spec0 w)
  after w := match w with
    | ⟨0, _⟩ => iblk m c 0
    | ⟨1, _⟩ => iblk m c 1
    | ⟨2, _⟩ => iblk m c 2
    | ⟨3, _⟩ => iblk m c 3
    | ⟨4, _⟩ => iblk m c 4
    | ⟨5, _⟩ => iblk m c 5
    | ⟨6, _⟩ => iblk m c 6
    | ⟨7, _⟩ => iblk m c 7
    | ⟨8, _⟩ => iblk m c 8
    | ⟨9, _⟩ => outAt m c
    | ⟨10, _⟩ => hnAt m c
    | ⟨11, _⟩ => cnAt m c
  Φ t := PhiS m c t.val
  q := fun _ => fullShare
  owed := fun _ => 0

/-- Each window's array starts with its contents at the launch. -/
theorem A_eq (c : Dev nD) (w : Fin cfg0.W) : (dats m 0 c).A w = V m c (Pipeline.arrRef spec0 w) := by dsimp only [dats]

/-- The invariant before a point, at the point's number. -/
theorem PhiS_castSucc (c : Dev nD) (t : Fin cfg0.N) : (dats m 0 c).Φ t.castSucc = PhiS m c t.val := by
  dsimp only [dats]; rfl

/-- A point leaves the block of the input chunk as fetched. -/
theorem after0_0 (c : Dev nD) (t : Fin cfg0.N) : (dats m 0 c).after 0 t = iblk m c 0 t := by dsimp only [dats]
/-- A point leaves the block of layer 0's input weights as fetched. -/
theorem after0_1 (c : Dev nD) (t : Fin cfg0.N) : (dats m 0 c).after 1 t = iblk m c 1 t := by dsimp only [dats]
/-- A point leaves the block of layer 0's recurrent weights as fetched. -/
theorem after0_2 (c : Dev nD) (t : Fin cfg0.N) : (dats m 0 c).after 2 t = iblk m c 2 t := by dsimp only [dats]
/-- A point leaves the block of layer 0's bias as fetched. -/
theorem after0_3 (c : Dev nD) (t : Fin cfg0.N) : (dats m 0 c).after 3 t = iblk m c 3 t := by dsimp only [dats]
/-- A point leaves the block of layer 1's input weights as fetched. -/
theorem after0_4 (c : Dev nD) (t : Fin cfg0.N) : (dats m 0 c).after 4 t = iblk m c 4 t := by dsimp only [dats]
/-- A point leaves the block of layer 1's recurrent weights as fetched. -/
theorem after0_5 (c : Dev nD) (t : Fin cfg0.N) : (dats m 0 c).after 5 t = iblk m c 5 t := by dsimp only [dats]
/-- A point leaves the block of layer 1's bias as fetched. -/
theorem after0_6 (c : Dev nD) (t : Fin cfg0.N) : (dats m 0 c).after 6 t = iblk m c 6 t := by dsimp only [dats]
/-- A point leaves the block of layer 0's mask as fetched. -/
theorem after0_7 (c : Dev nD) (t : Fin cfg0.N) : (dats m 0 c).after 7 t = iblk m c 7 t := by dsimp only [dats]
/-- A point leaves the block of layer 1's mask as fetched. -/
theorem after0_8 (c : Dev nD) (t : Fin cfg0.N) : (dats m 0 c).after 8 t = iblk m c 8 t := by dsimp only [dats]
/-- The output's block holds the chunk the point made. -/
theorem after0_9 (c : Dev nD) (t : Fin cfg0.N) : (dats m 0 c).after 9 t = outAt m c t := by dsimp only [dats]
/-- The final hidden states' block after a point. -/
theorem after0_10 (c : Dev nD) (t : Fin cfg0.N) : (dats m 0 c).after 10 t = hnAt m c t := by dsimp only [dats]
/-- The final cell states' block after a point. -/
theorem after0_11 (c : Dev nD) (t : Fin cfg0.N) : (dats m 0 c).after 11 t = cnAt m c t := by dsimp only [dats]
/-- A point finds the block of the input chunk as fetched. -/
theorem before0_0 (c : Dev nD) (t : Fin cfg0.N) (d) : (dats m 0 c).before 0 t d = iblk m c 0 t := before0_0_of m (dats m 0 c) (A_eq m c 0) (after0_0 m c) t d
/-- A point finds the block of layer 0's input weights as fetched. -/
theorem before0_1 (c : Dev nD) (t : Fin cfg0.N) (d) : (dats m 0 c).before 1 t d = iblk m c 1 t := before0_1_of m (dats m 0 c) (A_eq m c 1) (after0_1 m c) t d
/-- A point finds the block of layer 0's recurrent weights as fetched. -/
theorem before0_2 (c : Dev nD) (t : Fin cfg0.N) (d) : (dats m 0 c).before 2 t d = iblk m c 2 t := before0_2_of m (dats m 0 c) (A_eq m c 2) (after0_2 m c) t d
/-- A point finds the block of layer 0's bias as fetched. -/
theorem before0_3 (c : Dev nD) (t : Fin cfg0.N) (d) : (dats m 0 c).before 3 t d = iblk m c 3 t := before0_3_of m (dats m 0 c) (A_eq m c 3) (after0_3 m c) t d
/-- A point finds the block of layer 1's input weights as fetched. -/
theorem before0_4 (c : Dev nD) (t : Fin cfg0.N) (d) : (dats m 0 c).before 4 t d = iblk m c 4 t := before0_4_of m (dats m 0 c) (A_eq m c 4) (after0_4 m c) t d
/-- A point finds the block of layer 1's recurrent weights as fetched. -/
theorem before0_5 (c : Dev nD) (t : Fin cfg0.N) (d) : (dats m 0 c).before 5 t d = iblk m c 5 t := before0_5_of m (dats m 0 c) (A_eq m c 5) (after0_5 m c) t d
/-- A point finds the block of layer 1's bias as fetched. -/
theorem before0_6 (c : Dev nD) (t : Fin cfg0.N) (d) : (dats m 0 c).before 6 t d = iblk m c 6 t := before0_6_of m (dats m 0 c) (A_eq m c 6) (after0_6 m c) t d
/-- A point finds the block of layer 0's mask as fetched. -/
theorem before0_7 (c : Dev nD) (t : Fin cfg0.N) (d) : (dats m 0 c).before 7 t d = iblk m c 7 t := before0_7_of m (dats m 0 c) (A_eq m c 7) (after0_7 m c) t d
/-- A point finds the block of layer 1's mask as fetched. -/
theorem before0_8 (c : Dev nD) (t : Fin cfg0.N) (d) : (dats m 0 c).before 8 t d = iblk m c 8 t := before0_8_of m (dats m 0 c) (A_eq m c 8) (after0_8 m c) t d

/-- What the body is entered with at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))

/-- What it leaves. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

/-- What the invariant hands the body: the carried buffers at contents that agree with the carried state. -/
theorem Phi_open (c : Dev nD) (t : Fin cfg0.N) :
    PhiS m c t.val ⊢ iprop(∃ (Z13 Z14 : Vec F S32x64x1024 .f32) (B : Vec F S2x32x64x256 .f32) (O : Vec F S32x64x256 .f32) (st : St F), ⌜Agrees t (carAt m c t.val) B st⌝
      ∗ owns (c : Thread nD τ) (Memref.whole cc0_scratch0 : Memref sig .tc .vmem S32x64x1024 .f32) fullShare Z13 ∗ owns (c : Thread nD τ) (Memref.whole cc0_scratch1 : Memref sig .tc .vmem S32x64x1024 .f32) fullShare Z14 ∗ owns (c : Thread nD τ) (Memref.whole cc0_scratch2 : Memref sig .tc .vmem S2x32x64x256 .f32) fullShare B ∗ owns (c : Thread nD τ) (Memref.whole cc0_scratch3 : Memref sig .tc .vmem S32x64x256 .f32) fullShare O ∗ owns (c : Thread nD τ) (Memref.whole cc0_scratch4 : Memref sig .tc .vmem S64x256 .f32) fullShare st.h0 ∗ owns (c : Thread nD τ) (Memref.whole cc0_scratch5 : Memref sig .tc .vmem S64x256 .f32) fullShare st.c0 ∗ owns (c : Thread nD τ) (Memref.whole cc0_scratch6 : Memref sig .tc .vmem S64x256 .f32) fullShare st.h1 ∗ owns (c : Thread nD τ) (Memref.whole cc0_scratch7 : Memref sig .tc .vmem S64x256 .f32) fullShare st.c1 ∗ (∃ r, prngReg c r)) := by
  by_cases hz : t.val = 0
  · rw [PhiS_zero m c _ hz, PhiA_eq]
    iintro ⟨⟨⟨%Z13, H13⟩, ⟨%Z14, H14⟩, ⟨%B, H15⟩, ⟨%O, H16⟩, ⟨%h0, H17⟩, ⟨%c0, H18⟩, ⟨%h1, H19⟩, ⟨%c1, H20⟩⟩, Hg⟩
    iexists Z13; iexists Z14; iexists B; iexists O; iexists (⟨c0, h0, c1, h1⟩ : St F)
    isplitr
    · ipureintro
      exact Or.inl ⟨hz, by rw [hz]; rfl⟩
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    iexact Hg
  · obtain ⟨n, hn⟩ := Nat.exists_eq_succ_of_ne_zero hz
    rw [hn, PhiS_succ]
    iintro ⟨⟨⟨%Z13, H13⟩, ⟨%Z14, H14⟩, ⟨%B, %hB, H15⟩, ⟨%O, H16⟩, H17, H18, H19, H20⟩, Hg⟩
    iexists Z13; iexists Z14; iexists B; iexists O; iexists (carAt m c (n + 1)).st
    isplitr
    · ipureintro
      refine Or.inr ⟨by omega, rfl, ?_⟩
      have key : ∀ (off : Fin 4 → ℕ) (ho : off = ![n % 2, 0, 0, 0]) (inb : ∀ a, off a + S1x32x64x256.size a ≤ S2x32x64x256.size a),
          VecWindow.window B off S1x32x64x256.size inb = (carAt m c (n + 1)).p := by
        intro off ho inb
        subst ho
        exact hB
      exact key _ ((off1_eq t).trans (by rw [hn]; congr 1; show (n + 1 + 1) % 2 = n % 2; omega)) _
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    iexact Hg

/-- What the body leaves of the carried buffers is the invariant after the point. -/
theorem Phi_close (c : Dev nD) (t : Fin cfg0.N) (X13 X14 : Vec F S32x64x1024 .f32) (B : Vec F S2x32x64x256 .f32) (O : Vec F S32x64x256 .f32) (st : St F)
    (hst : st = ((insAt m c t).next t.val (carAt m c t.val)).st)
    (hB : slotWin B t.val = ((insAt m c t).next t.val (carAt m c t.val)).p) :
    iprop(owns (c : Thread nD τ) (Memref.whole cc0_scratch0 : Memref sig .tc .vmem S32x64x1024 .f32) fullShare X13 ∗ owns (c : Thread nD τ) (Memref.whole cc0_scratch1 : Memref sig .tc .vmem S32x64x1024 .f32) fullShare X14 ∗ owns (c : Thread nD τ) (Memref.whole cc0_scratch2 : Memref sig .tc .vmem S2x32x64x256 .f32) fullShare B ∗ owns (c : Thread nD τ) (Memref.whole cc0_scratch3 : Memref sig .tc .vmem S32x64x256 .f32) fullShare O ∗ owns (c : Thread nD τ) (Memref.whole cc0_scratch4 : Memref sig .tc .vmem S64x256 .f32) fullShare st.h0 ∗ owns (c : Thread nD τ) (Memref.whole cc0_scratch5 : Memref sig .tc .vmem S64x256 .f32) fullShare st.c0 ∗ owns (c : Thread nD τ) (Memref.whole cc0_scratch6 : Memref sig .tc .vmem S64x256 .f32) fullShare st.h1 ∗ owns (c : Thread nD τ) (Memref.whole cc0_scratch7 : Memref sig .tc .vmem S64x256 .f32) fullShare st.c1 ∗ (∃ r, prngReg c r)) ⊢ PhiS m c (t.val + 1) := by
  rw [PhiS_succ, carAt_succ]
  subst hst
  iintro ⟨H13, H14, H15, H16, H17, H18, H19, H20, Hg⟩
  isplitr [Hg]
  · isplitl [H13]
    · iexists _; iexact H13
    isplitl [H14]
    · iexists _; iexact H14
    isplitl [H15]
    · iexists _
      isplitr
      · ipureintro; exact hB
      iexact H15
    isplitl [H16]
    · iexists _; iexact H16
    isplitl [H17]
    · iexact H17
    isplitl [H18]
    · iexact H18
    isplitl [H19]
    · iexact H19
    iexact H20
  iexact Hg

/-- What the body leaves in the block of final hidden states is what the window asks of it. -/
theorem leaves10 (c : Dev nD) (t : Fin cfg0.N) (B : Vec F S2x32x64x256 .f32) (st : St F) (hA : Agrees t (carAt m c t.val) B st) (Y) (hY : (∃ d, Y = (dats m 0 c).before 10 t d)) :
    owns (c : Thread nD τ) (st0_10 t) fullShare ((insAt m c t).hnBlk (grid0.coords t) B st Y) ⊢ (dats m 0 c).leavesExact 10 t := by
  by_cases ht : t.val = 64
  · rw [show (dats m 0 c).leavesExact 10 t = owns (c : Thread nD τ) (st0_10 t) fullShare ((dats m 0 c).after 10 t) from by
      unfold Dat.leavesExact; rw [live10 t ht], after0_10, hnBlk_eq _ hA ht]
    unfold hnAt
    rw [carAt_succ]
  · rw [Dat.leavesExact_idle (dats m 0 c) 10 t (idle10 t ht) (noFlush10 t ht), hnBlk_other _ ht]
    obtain ⟨d, rfl⟩ := hY
    iintro H
    iexists _; iexact H

/-- The same of the block of final cell states. -/
theorem leaves11 (c : Dev nD) (t : Fin cfg0.N) (B : Vec F S2x32x64x256 .f32) (st : St F) (hA : Agrees t (carAt m c t.val) B st) (Y) (hY : (∃ d, Y = (dats m 0 c).before 11 t d)) :
    owns (c : Thread nD τ) (st0_11 t) fullShare ((insAt m c t).cnBlk (grid0.coords t) B st Y) ⊢ (dats m 0 c).leavesExact 11 t := by
  by_cases ht : t.val = 64
  · rw [show (dats m 0 c).leavesExact 11 t = owns (c : Thread nD τ) (st0_11 t) fullShare ((dats m 0 c).after 11 t) from by
      unfold Dat.leavesExact; rw [live11 t ht], after0_11, cnBlk_eq _ hA ht]
    unfold cnAt
    rw [carAt_succ]
  · rw [Dat.leavesExact_idle (dats m 0 c) 11 t (idle11 t ht) (noFlush11 t ht), cnBlk_other _ ht]
    obtain ⟨d, rfl⟩ := hY
    iintro H
    iexists _; iexact H

/-- A window that is never idle is left at what the data say. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The body's triple at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) from rfl, PhiS_castSucc]
  rw [leaves_live m c 0 t rfl, after0_0]
  rw [leaves_live m c 1 t rfl, after0_1]
  rw [leaves_live m c 2 t rfl, after0_2]
  rw [leaves_live m c 3 t rfl, after0_3]
  rw [leaves_live m c 4 t rfl, after0_4]
  rw [leaves_live m c 5 t rfl, after0_5]
  rw [leaves_live m c 6 t rfl, after0_6]
  rw [leaves_live m c 7 t rfl, after0_7]
  rw [leaves_live m c 8 t rfl, after0_8]
  rw [leaves_live m c 9 t rfl, after0_9]
  rw [lstm_eq_body]
  iintro ⟨HP, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
  ihave HP := (Phi_open m c t) $$ HP
  icases HP with ⟨%Z13, %Z14, %B, %O, %st, %hA, H13, H14, H15, H16, H17, H18, H19, H20, Hg⟩
  iapply (body_wp c (grid0.coords t) (st0_0 t) (st0_1 t) (st0_2 t) (st0_3 t) (st0_4 t) (st0_5 t) (st0_6 t) (st0_7 t) (st0_8 t) (st0_9 t) (st0_10 t) (st0_11 t) (Memref.whole cc0_scratch0 : Memref sig .tc .vmem S32x64x1024 .f32) (Memref.whole cc0_scratch1 : Memref sig .tc .vmem S32x64x1024 .f32) (Memref.whole cc0_scratch2 : Memref sig .tc .vmem S2x32x64x256 .f32) (Memref.whole cc0_scratch3 : Memref sig .tc .vmem S32x64x256 .f32) (Memref.whole cc0_scratch4 : Memref sig .tc .vmem S64x256 .f32) (Memref.whole cc0_scratch5 : Memref sig .tc .vmem S64x256 .f32) (Memref.whole cc0_scratch6 : Memref sig .tc .vmem S64x256 .f32) (Memref.whole cc0_scratch7 : Memref sig .tc .vmem S64x256 .f32) (insAt m c t) st _ _ _ Z13 Z14 B O _)
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iexact W7
  isplitl [W8]
  · iexact W8
  isplitl [W9]
  · iexact W9
  isplitl [W10]
  · iexact W10
  isplitl [W11]
  · iexact W11
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  iintro ⟨W0, W1, W2, W3, W4, W5, W6, W7, W8, W9, W10, W11, H13, H14, H15, H16, H17, H18, H19, H20⟩
  isplitl [H13 H14 H15 H16 H17 H18 H19 H20 Hg]
  · iapply (Phi_close m c t _ _ ((insAt m c t).bufB (grid0.coords t) B st) _ ((insAt m c t).carry (grid0.coords t) B st) (carry_eq _ hA) (bufB_window _ hA _ rfl _))
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    iexact Hg
  isplitl [Ho]
  · iexact Ho
  isplitl [W0]
  · iexact W0
  isplitl [W1]
  · iexact W1
  isplitl [W2]
  · iexact W2
  isplitl [W3]
  · iexact W3
  isplitl [W4]
  · iexact W4
  isplitl [W5]
  · iexact W5
  isplitl [W6]
  · iexact W6
  isplitl [W7]
  · iexact W7
  isplitl [W8]
  · iexact W8
  isplitl [W9]
  · rw [outBlk_eq _ hA]
    iexact W9
  isplitl [W10]
  · iapply (leaves10 m c t B st hA _ ⟨d10, rfl⟩) $$ W10
  iapply (leaves11 m c t B st hA _ ⟨d11, rfl⟩) $$ W11

/-- The body table's row at point `t`'s slots is the body as the schedule spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point. -/
theorem hin (c : Dev nD) : Pipeline.ΦA spec0 c ⊢ (dats m 0 c).Φ 0 := by
  rw [show (dats m 0 c).Φ 0 = PhiS m c 0 from rfl, PhiS_zero m c 0 rfl]

/-- After the last point the invariant gives the scratch back. -/
theorem hout (c : Dev nD) : (dats m 0 c).Φ (Fin.last cfg0.N) ⊢ Pipeline.ΦA spec0 c := by
  rw [show (dats m 0 c).Φ (Fin.last cfg0.N) = PhiS m c (64 + 1) from by
    dsimp only [dats]; rw [Fin.val_last]; exact congrArg (PhiS m c) (show cfg0.N = 65 from N_0), PhiS_succ, PhiA_eq]
  iintro ⟨⟨H13, H14, ⟨%B, %hB, H15⟩, H16, H17, H18, H19, H20⟩, Hg⟩
  isplitr [Hg]
  · isplitl [H13]
    · iexact H13
    isplitl [H14]
    · iexact H14
    isplitl [H15]
    · iexists _; iexact H15
    isplitl [H16]
    · iexact H16
    isplitl [H17]
    · iexists _; iexact H17
    isplitl [H18]
    · iexists _; iexact H18
    isplitl [H19]
    · iexists _; iexact H19
    iexists _; iexact H20
  iexact Hg

set_option backward.isDefEq.respectTransparency.types false in
/-- The launch: every execution ends with the windows' arrays at what the data say, everything else as the region found it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim, at any values: the arguments end as they were and every semaphore is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.KernelIdeal.Body
-- ==== Proof.SameText.lean ====
/-
  The compiled kernel and its idealization print as the same program: their bodies, pipelines and host programs are equal, so a statement about the one is a statement about the other.
-/
module

public import proofs.«01_k».proof.Defs
public import proofs.«01_k».proof.Proof.Gen.Kernel
public import proofs.«01_k».proof.Proof.Data

@[expose] public section

set_option maxRecDepth 65536

noncomputable section

namespace Cert.SameText

open Idealize.ShloMosaic Idealize.SL.Sem

variable {F : FTy → Type} [FloatOps F]

/-- The two kernel bodies are the same program. -/
theorem body_eq : @Cert.Kernel.cc0_vd_lstm2 F _ _ = @Cert.KernelIdeal.cc0_vd_lstm2 F _ _ := rfl

/-- The two body tables are the same. -/
theorem defs₀_eq : (Cert.Kernel.defs₀ (F := F)) = (Cert.KernelIdeal.defs₀ (F := F)) := by
  unfold Cert.Kernel.defs₀ Cert.KernelIdeal.defs₀
  refine congrArg Defs.onTc (funext fun l => funext fun a => ?_)
  match l, a with
  | 0, (t, s) =>
    show Cert.Kernel.cc0_vd_lstm2 _ _ _ _ _ _ _ _ _ _ _ _ _ _ _ _ _ _ _ _ _ _ _ _ _ _ _ _ _ _ _ _ _ _ _ _ _ _ _ _ _ = _
    rw [body_eq]
    rfl

/-- The two tables with their pipelines are the same. -/
theorem defs_eq : (Cert.Kernel.defs (F := F)) = (Cert.KernelIdeal.defs (F := F)) :=
  congrArg (Pipeline.defs (Cert.KernelIdeal.pcfgs (F := F))) defs₀_eq

/-- The two host programs are the same. -/
theorem main_eq : (Cert.Kernel.main (F := F)) = (Cert.KernelIdeal.main (F := F)) := rfl

/-- The compiled kernel ends with its arguments unchanged and every semaphore at zero. -/
theorem kernel_frame : Cert.quiescent_Kernel := by
  intro m g _
  rw [defs_eq, main_eq]
  exact Cert.KernelIdeal.Body.frame_main (F := Bits) m g

end Cert.SameText

end
-- ==== Proof.Spec.lean ====
/-
  The two-layer network over the extended reals, written as a recursion over time: one step's gates, the cell and hidden state they give, and the two layers.
-/
module

public import Idealize.ShloMosaic.PureOps.Ideal

@[expose] public section

noncomputable section

namespace Cert.Spec

open Idealize.ShloMosaic

/-- A matrix of extended reals. -/
abbrev Mat (m n : ℕ) := Fin m → Fin n → EReal

/-- The `k`-th of the four blocks of 256 gate columns, at column `j`. -/
def col (k : Fin 4) (j : Fin 256) : Fin 1024 := ⟨256 * k.val + j.val, by omega⟩

/-- The gates' arguments: the input's part and the hidden state's part. -/
def gates (x : Mat 64 1024) (w : Mat 1024 256) (h : Mat 64 256) : Mat 64 1024 := fun b g => x b g + ∑ j, h b j * w g j

/-- The new cell state: forget gate times the old one, plus input gate times the candidate. -/
def newC (z : Mat 64 1024) (c : Mat 64 256) : Mat 64 256 := fun b j =>
  Ideal.logistic (z b (col 1 j)) * c b j + Ideal.logistic (z b (col 0 j)) * Ideal.tanh (z b (col 2 j))

/-- The new hidden state: output gate times the new cell state's hyperbolic tangent. -/
def newH (z : Mat 64 1024) (c : Mat 64 256) : Mat 64 256 := fun b j => Ideal.logistic (z b (col 3 j)) * Ideal.tanh (c b j)

/-- A layer's hidden and cell state. -/
structure HC where
  h : Mat 64 256
  c : Mat 64 256

/-- One step of a layer. -/
def HC.next (x : Mat 64 1024) (w : Mat 1024 256) (s : HC) : HC :=
  ⟨newH (gates x w s.h) (newC (gates x w s.h) s.c), newC (gates x w s.h) s.c⟩

/-- A layer's state after each time step, from zero, for the input's part `x k` of the gates at time `k`. -/
def layer (x : ℕ → Mat 64 1024) (w : Mat 1024 256) : ℕ → HC
  | 0 => ⟨fun _ _ => 0, fun _ _ => 0⟩
  | k + 1 => (layer x w k).next (x k) w

/-- A layer's states up to time `n` depend on the input before time `n` only. -/
theorem layer_congr {x y : ℕ → Mat 64 1024} {w : Mat 1024 256} {n : ℕ} (h : ∀ k, k < n → x k = y k) : ∀ k, k ≤ n → layer x w k = layer y w k
  | 0, _ => rfl
  | k + 1, hk => by
    show (layer x w k).next (x k) w = (layer y w k).next (y k) w
    rw [layer_congr h k (by omega), h k (by omega)]

/-- The network's arguments: the input, and for each layer its weights, its two biases and its mask. -/
structure Args where
  x : Fin 64 → Fin 2048 → Fin 128 → EReal
  wi0 : Mat 1024 128
  wh0 : Mat 1024 256
  bi0 : Fin 1024 → EReal
  bh0 : Fin 1024 → EReal
  wi1 : Mat 1024 256
  wh1 : Mat 1024 256
  bi1 : Fin 1024 → EReal
  bh1 : Fin 1024 → EReal
  m0 : Mat 64 256
  m1 : Mat 64 256

/-- The input's part of layer 0's gates at time `k` (times past the end are read round). -/
def Args.in0 (A : Args) (k : ℕ) : Mat 64 1024 := fun b g =>
  (∑ i, A.x b ⟨k % 2048, Nat.mod_lt _ (by decide)⟩ i * A.wi0 g i) + (A.bi0 g + A.bh0 g)

/-- The part of layer 1's gates that comes from layer 0's hidden state `h`, masked. -/
def Args.in1 (A : Args) (h : Mat 64 256) : Mat 64 1024 := fun b g => (∑ j, (h b j * A.m0 b j) * A.wi1 g j) + (A.bi1 g + A.bh1 g)

/-- Layer 0 after each time step. -/
def Args.lay0 (A : Args) : ℕ → HC := layer A.in0 A.wh0

/-- Layer 1 after each time step: its input at time `k` is layer 0's hidden state after that step. -/
def Args.lay1 (A : Args) : ℕ → HC := layer (fun k => A.in1 (A.lay0 (k + 1)).h) A.wh1

/-- Layer 0's states, one time on. -/
theorem Args.lay0_succ (A : Args) (k : ℕ) : A.lay0 (k + 1) = (A.lay0 k).next (A.in0 k) A.wh0 := rfl
/-- Layer 1's states, one time on. -/
theorem Args.lay1_succ (A : Args) (k : ℕ) : A.lay1 (k + 1) = (A.lay1 k).next (A.in1 (A.lay0 (k + 1)).h) A.wh1 := rfl

end Cert.Spec

end
-- ==== Proof.KCell.lean ====
/-
  The kernel's cell at the ideal instance: its payloads are the cell's equations, entry by entry.
-/
module

public import proofs.«01_k».proof.Proof.Point
public import proofs.«01_k».proof.Proof.Spec
public import Idealize.ShloMosaic.Lib.Pointwise

@[expose] public section

set_option maxRecDepth 16384

noncomputable section

namespace Cert.KernelIdeal.Body

open Cert.KernelIdeal.Gen Cert.Rules Cert.Spec
open Idealize.ShloMosaic

/-- A batch-by-hidden vector as a matrix. -/
def mat (v : FVec Ideal S64x256 .f32) : Mat 64 256 := fun b j => v (ix2 b j)

/-- Transposed weights as the matrix they are the transpose of. -/
def matT (w : FVec Ideal S256x1024 .f32) : Mat 1024 256 := fun g j => w (ix2 j g)

/-- One time step's row of input products as a matrix. -/
def matX (x : Vec Ideal S1x64x1024 .f32) : Mat 64 1024 := fun b g => x (ix3 0 b g)

/-- The gates' arguments that the kernel makes are those of the network. -/
theorem pay15_at (w : FVec Ideal S256x1024 .f32) (h : FVec Ideal S64x256 .f32) (x : Vec Ideal S1x64x1024 .f32) (b : Fin 64) (g : Fin 1024) :
    k0_pay15 w h x (ix2 b g) = gates (matX x) (matT w) (mat h) b g := by
  pointwise [k0_pay15, gates, matX, matT, mat]

/-- The cell state that the kernel makes is the network's. -/
theorem cellC_mat (w : FVec Ideal S256x1024 .f32) (h c : FVec Ideal S64x256 .f32) (x : Vec Ideal S1x64x1024 .f32) :
    mat (cellC w h c x) = newC (gates (matX x) (matT w) (mat h)) (mat c) := by
  funext b j
  simp only [newC, ← pay15_at]
  pointwise [mat, cellC, k0_pay17, col]

/-- The hidden state that the kernel makes is the network's. -/
theorem cellH_mat (w : FVec Ideal S256x1024 .f32) (h c : FVec Ideal S64x256 .f32) (x : Vec Ideal S1x64x1024 .f32) :
    mat (cellH w h c x) = newH (gates (matX x) (matT w) (mat h)) (mat (cellC w h c x)) := by
  funext b j
  simp only [newH, ← pay15_at]
  pointwise [mat, cellH, cellC, k0_pay18, col]

/-- One row of a chunk's input products. -/
theorem rowX_at (X : Vec Ideal S32x64x1024 .f32) (s : ℕ) (hs : s < 32) (b : Fin 64) (g : Fin 1024) : matX (rowX X s) b g = X (ix3 ⟨s, hs⟩ b g) := by
  unfold matX rowX
  congr 1
  funext k; fin_cases k
  · exact Fin.ext (Nat.mod_eq_of_lt hs)
  · rfl
  · rfl

/-- Layer 0's input products: the chunk's rows against the input weights, plus the bias. -/
theorem pay12_at (x : Vec Ideal S64x32x128 .f32) (w : Vec Ideal S128x1024 .f32) (b0 : Vec Ideal S1x1024 .f32) (s : Fin 32) (b : Fin 64) (g : Fin 1024) :
    k0_pay12 x w b0 (ix3 s b g) = (∑ i, x (ix3 b s i) * w (ix2 i g)) + b0 (ix2 0 g) := by
  pointwise [k0_pay12]

/-- Layer 1's input products: the masked first-layer chunk against the input weights, plus the bias. -/
theorem pay11_at (p : Vec Ideal S1x32x64x256 .f32) (w : Vec Ideal S256x1024 .f32) (b1 : Vec Ideal S1x1024 .f32) (s : Fin 32) (b : Fin 64) (g : Fin 1024) :
    k0_pay11 (k0_pay10 p w b1) (ix3 s b g) = (∑ j, p (ix4 0 s b j) * w (ix2 j g)) + b1 (ix2 0 g) := by
  pointwise [k0_pay10, k0_pay11]

/-- The layer 0 recurrent weights are read as they are. -/
theorem pay13_at (w : Vec Ideal S256x1024 .f32) : k0_pay13 w = w := by
  funext j; idx_vars j; pointwise [k0_pay13]
/-- The layer 1 recurrent weights are read as they are. -/
theorem pay14_at (w : Vec Ideal S256x1024 .f32) : k0_pay14 w = w := by
  funext j; idx_vars j; pointwise [k0_pay14]
/-- The states the run starts from are zero. -/
theorem zero_mat : mat (St.zero (F := Ideal)).h0 = (fun _ _ => 0) ∧ mat (St.zero (F := Ideal)).c0 = (fun _ _ => 0)
    ∧ mat (St.zero (F := Ideal)).h1 = (fun _ _ => 0) ∧ mat (St.zero (F := Ideal)).c1 = (fun _ _ => 0) := by
  refine ⟨?_, ?_, ?_, ?_⟩ <;> funext b j <;> pointwise [mat, St.zero, k0_pay5, k0_pay6, k0_pay7, k0_pay8]
/-- The output block is the chunk with batch and time exchanged. -/
theorem pay275_at (x : Vec Ideal S32x64x256 .f32) (b : Fin 64) (s : Fin 32) (j : Fin 256) : k0_pay275 x (ix3 b s j) = x (ix3 s b j) := by
  pointwise [k0_pay275]

end Cert.KernelIdeal.Body

end
-- ==== Proof.KBlocks.lean ====
/-
  The blocks the grid points read, over the arguments: the chunk of the sequence a point takes, and the weights, biases and masks that every point reads whole.
-/
module

public import proofs.«01_k».proof.Proof.Data
public import proofs.«01_k».proof.Proof.Spec
public import Idealize.ShloMosaic.Lib.Pointwise
public import Idealize.ShloMosaic.Lib.StableHlo.ReadAt

@[expose] public section

set_option maxRecDepth 16384

noncomputable section

namespace Cert.KernelIdeal.Body

open Cert.KernelIdeal.Gen Cert.Spec
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-- The network's arguments as the kernel's memory holds them. -/
def args : Args where
  x b t i := m ((c : Thread nD τ).loc main_arg0) (ix3 b t i)
  wi0 g i := m ((c : Thread nD τ).loc main_arg1) (ix2 g i)
  wh0 g j := m ((c : Thread nD τ).loc main_arg2) (ix2 g j)
  bi0 g := m ((c : Thread nD τ).loc main_arg3) (ix1 g)
  bh0 g := m ((c : Thread nD τ).loc main_arg4) (ix1 g)
  wi1 g j := m ((c : Thread nD τ).loc main_arg5) (ix2 g j)
  wh1 g j := m ((c : Thread nD τ).loc main_arg6) (ix2 g j)
  bi1 g := m ((c : Thread nD τ).loc main_arg7) (ix1 g)
  bh1 g := m ((c : Thread nD τ).loc main_arg8) (ix1 g)
  m0 b j := m ((c : Thread nD τ).loc main_arg9) (ix2 b j)
  m1 b j := m ((c : Thread nD τ).loc main_arg10) (ix2 b j)

/-! ## The arrays the region reads -/

/-- Layer 0's input weights, transposed on the host, by their entries. -/
theorem V0_at (i : Fin 128) (g : Fin 1024) : V m c main_v0 (ix2 i g) = (args m c).wi0 g i := by
  unfold V hostOps0; after_reads_at; rfl
/-- Layer 0's recurrent weights, transposed on the host, by their entries. -/
theorem V1_at (j : Fin 256) (g : Fin 1024) : V m c main_v1 (ix2 j g) = (args m c).wh0 g j := by
  unfold V hostOps0; after_reads_at; rfl
/-- Layer 0's bias is the sum of its two. -/
theorem V3_at (g : Fin 1024) : V m c main_v3 (ix2 0 g) = (args m c).bi0 g + (args m c).bh0 g := by
  unfold V hostOps0; after_reads_at; rfl
/-- Layer 1's input weights, transposed on the host, by their entries. -/
theorem V4_at (j : Fin 256) (g : Fin 1024) : V m c main_v4 (ix2 j g) = (args m c).wi1 g j := by
  unfold V hostOps0; after_reads_at; rfl
/-- Layer 1's recurrent weights, transposed on the host, by their entries. -/
theorem V5_at (j : Fin 256) (g : Fin 1024) : V m c main_v5 (ix2 j g) = (args m c).wh1 g j := by
  unfold V hostOps0; after_reads_at; rfl
/-- Layer 1's bias is the sum of its two. -/
theorem V7_at (g : Fin 1024) : V m c main_v7 (ix2 0 g) = (args m c).bi1 g + (args m c).bh1 g := by
  unfold V hostOps0; after_reads_at; rfl

/-! ## The blocks -/

/-- Point `t` reads the input chunk `t`, and the last point the last chunk again. -/
theorem index0 : ∀ t : Fin cfg0.N, win0_0.index t (0 : Fin 3) = 0 ∧ win0_0.index t (1 : Fin 3) = min t.val 63 ∧ win0_0.index t (2 : Fin 3) = 0 :=
  (by decide +kernel : ∀ t : Fin grid0.N, _)

/-- The input chunk's entries are the input's at the chunk's times. -/
theorem blk0_at (t : Fin cfg0.N) (b : Fin 64) (s : Fin 32) (i : Fin 128) :
    iblk m c 0 t (ix3 b s i) = (args m c).x b ⟨32 * min t.val 63 + s.val, by omega⟩ i := by
  obtain ⟨e0, e1, e2⟩ := index0 t
  show V m c main_arg0 (((cfg0.win 0).blk t).view.emb (ix3 b s i)) = _
  rw [V_main_arg0]
  show m _ _ = m _ _
  congr 1
  funext a
  apply Fin.ext
  match a with
  | ⟨0, _⟩ => show win0_0.index t (0 : Fin 3) * 64 + 1 * b.val = b.val; rw [e0]; omega
  | ⟨1, _⟩ => show win0_0.index t (1 : Fin 3) * 32 + 1 * s.val = 32 * min t.val 63 + s.val; rw [e1]; omega
  | ⟨2, _⟩ => show win0_0.index t (2 : Fin 3) * 128 + 1 * i.val = i.val; rw [e2]; omega

/-- The weights, biases and masks are one block each. -/
theorem index_whole : ∀ t : Fin cfg0.N, (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) ∧ (∀ a : Fin 2, win0_7.index t a = 0)
    ∧ (∀ a : Fin 2, win0_8.index t a = 0) :=
  (by decide +kernel : ∀ t : Fin grid0.N, _)

/-- A block at index zero on both axes is the array itself. -/
theorem emb_whole {s : Shape} (e z : Fin s.rank → ℕ) (i : s.Idx) (k : s.Idx) (h0 : ∀ a, e a = 0) (hk : ∀ a, (k a).val = e a * z a + 1 * (i a).val) : k = i :=
  funext fun a => Fin.ext (by rw [hk, h0]; omega)

/-- The block of layer 0's input weights is the whole array. -/
theorem blk1_eq (t : Fin cfg0.N) : iblk m c 1 t = V m c main_v0 := funext fun i => congrArg (V m c main_v0)
  (emb_whole (s := S128x1024) (win0_1.index t) S128x1024.size i (((cfg0.win 1).blk t).view.emb i) (index_whole t).1 fun a => rfl)
/-- The block of layer 0's recurrent weights is the whole array. -/
theorem blk2_eq (t : Fin cfg0.N) : iblk m c 2 t = V m c main_v1 := funext fun i => congrArg (V m c main_v1)
  (emb_whole (s := S256x1024) (win0_2.index t) S256x1024.size i (((cfg0.win 2).blk t).view.emb i) (index_whole t).2.1 fun a => rfl)
/-- The block of layer 0's bias is the whole array. -/
theorem blk3_eq (t : Fin cfg0.N) : iblk m c 3 t = V m c main_v3 := funext fun i => congrArg (V m c main_v3)
  (emb_whole (s := S1x1024) (win0_3.index t) S1x1024.size i (((cfg0.win 3).blk t).view.emb i) (index_whole t).2.2.1 fun a => rfl)
/-- The block of layer 1's input weights is the whole array. -/
theorem blk4_eq (t : Fin cfg0.N) : iblk m c 4 t = V m c main_v4 := funext fun i => congrArg (V m c main_v4)
  (emb_whole (s := S256x1024) (win0_4.index t) S256x1024.size i (((cfg0.win 4).blk t).view.emb i) (index_whole t).2.2.2.1 fun a => rfl)
/-- The block of layer 1's recurrent weights is the whole array. -/
theorem blk5_eq (t : Fin cfg0.N) : iblk m c 5 t = V m c main_v5 := funext fun i => congrArg (V m c main_v5)
  (emb_whole (s := S256x1024) (win0_5.index t) S256x1024.size i (((cfg0.win 5).blk t).view.emb i) (index_whole t).2.2.2.2.1 fun a => rfl)
/-- The block of layer 1's bias is the whole array. -/
theorem blk6_eq (t : Fin cfg0.N) : iblk m c 6 t = V m c main_v7 := funext fun i => congrArg (V m c main_v7)
  (emb_whole (s := S1x1024) (win0_6.index t) S1x1024.size i (((cfg0.win 6).blk t).view.emb i) (index_whole t).2.2.2.2.2.1 fun a => rfl)
/-- The block of layer 0's mask is the whole array. -/
theorem blk7_eq (t : Fin cfg0.N) : iblk m c 7 t = V m c main_arg9 := funext fun i => congrArg (V m c main_arg9)
  (emb_whole (s := S64x256) (win0_7.index t) S64x256.size i (((cfg0.win 7).blk t).view.emb i) (index_whole t).2.2.2.2.2.2.1 fun a => rfl)
/-- The block of layer 1's mask is the whole array. -/
theorem blk8_eq (t : Fin cfg0.N) : iblk m c 8 t = V m c main_arg10 := funext fun i => congrArg (V m c main_arg10)
  (emb_whole (s := S64x256) (win0_8.index t) S64x256.size i (((cfg0.win 8).blk t).view.emb i) (index_whole t).2.2.2.2.2.2.2 fun a => rfl)

end Cert.KernelIdeal.Body

end
-- ==== Proof.KValue.lean ====
/-
  What the kernel computes: the states its grid points carry are the two layers' states of the network, and the three result arrays hold the network's outputs and final states.
-/
module

public import proofs.«01_k».proof.Proof.KCell
public import proofs.«01_k».proof.Proof.KBlocks

@[expose] public section

set_option maxRecDepth 16384

noncomputable section

namespace Cert.KernelIdeal.Body

open Cert.KernelIdeal.Gen Cert.Spec
open Idealize.ShloMosaic Idealize.ShloMosaic.TcCoe Idealize.ShloMosaic.Tactic
open Idealize.ShloMosaic.Pipeline (Dat Cfg Window)

/-! ## One grid point -/

/-- Layer 0's part of a state. -/
def hc0 (st : St Ideal) : HC := ⟨mat st.h0, mat st.c0⟩
/-- Layer 1's part of a state. -/
def hc1 (st : St Ideal) : HC := ⟨mat st.h1, mat st.c1⟩

/-- One kernel cell is one step of the layer. -/
theorem cell_next (w : FVec Ideal S256x1024 .f32) (h c : FVec Ideal S64x256 .f32) (x : Vec Ideal S1x64x1024 .f32) :
    (⟨mat (cellH w h c x), mat (cellC w h c x)⟩ : HC) = HC.next (matX x) (matT w) ⟨mat h, mat c⟩ := by
  rw [cellH_mat, cellC_mat]; rfl

/-- One step of a point is one step of layer 0. -/
theorem run_hc0 (I : Ins Ideal) (p : Vec Ideal S1x32x64x256 .f32) (st : St Ideal) (s : ℕ) :
    hc0 (I.run p st (s + 1)) = (hc0 (I.run p st s)).next (matX (rowX I.xw0 s)) (matT I.r0) := by
  rw [← pay13_at I.r0]; exact cell_next _ _ _ _

/-- One step of a point is one step of layer 1. -/
theorem run_hc1 (I : Ins Ideal) (p : Vec Ideal S1x32x64x256 .f32) (st : St Ideal) (s : ℕ) :
    hc1 (I.run p st (s + 1)) = (hc1 (I.run p st s)).next (matX (rowX (I.xw1 p) s)) (matT I.r1) := by
  rw [← pay14_at I.r1]; exact cell_next _ _ _ _

variable (m : (ℓ : Loc nD τ sig) → Buf (Elt Ideal) ℓ) (c : Dev nD)

/-- Layer 0's recurrent weights as a point reads them. -/
theorem r0_mat (t : Fin cfg0.N) : matT (insAt m c t).r0 = (args m c).wh0 := by
  funext g j; show iblk m c 2 t (ix2 j g) = _; rw [blk2_eq]; exact V1_at m c j g

/-- Layer 1's recurrent weights as a point reads them. -/
theorem r1_mat (t : Fin cfg0.N) : matT (insAt m c t).r1 = (args m c).wh1 := by
  funext g j; show iblk m c 5 t (ix2 j g) = _; rw [blk5_eq]; exact V5_at m c j g

/-- Layer 0's mask as a point reads it. -/
theorem m0_mat (t : Fin cfg0.N) (b : Fin 64) (j : Fin 256) : (insAt m c t).m0 (ix2 b j) = (args m c).m0 b j := by
  show iblk m c 7 t (ix2 b j) = _; rw [blk7_eq, V_main_arg9]; rfl

/-- Layer 1's mask as a point reads it. -/
theorem m1_mat (t : Fin cfg0.N) (b : Fin 64) (j : Fin 256) : (insAt m c t).m1 (ix2 b j) = (args m c).m1 b j := by
  show iblk m c 8 t (ix2 b j) = _; rw [blk8_eq, V_main_arg10]; rfl

/-- While layer 0 has chunks, point `t`'s input products are those of the times `32 t, …, 32 t + 31`. -/
theorem xw0_mat (t : Fin cfg0.N) (ht : t.val < 64) (s : ℕ) (hs : s < 32) : matX (rowX (insAt m c t).xw0 s) = (args m c).in0 (32 * t.val + s) := by
  funext b g
  rw [rowX_at _ s hs]
  refine (pay12_at _ _ _ _ _ _).trans ?_
  refine congrArg₂ (· + ·) (Finset.sum_congr rfl fun i _ => congrArg₂ (· * ·) ((blk0_at m c t b ⟨s, hs⟩ i).trans ?_)
    ((congrFun (blk1_eq m c t) _).trans (V0_at m c i g))) ((congrFun (blk3_eq m c t) _).trans (V3_at m c g))
  refine congrArg (fun k => (args m c).x b k i) (Fin.ext ?_)
  show 32 * min t.val 63 + s = (32 * t.val + s) % 2048
  omega

/-- A chunk that holds masked hidden states of layer 0 gives layer 1's input products. -/
theorem xw1_mat (t : Fin cfg0.N) (p : Vec Ideal S1x32x64x256 .f32) (s : ℕ) (hs : s < 32) (h : Mat 64 256)
    (hp : ∀ b j, p (ix4 0 ⟨s, hs⟩ b j) = h b j * (args m c).m0 b j) : matX (rowX ((insAt m c t).xw1 p) s) = (args m c).in1 h := by
  funext b g
  rw [rowX_at _ s hs]
  refine (pay11_at _ _ _ _ _ _).trans ?_
  show (∑ j, p (ix4 0 ⟨s, hs⟩ b j) * iblk m c 4 t (ix2 j g)) + iblk m c 6 t (ix2 0 g) = _
  rw [blk4_eq, blk6_eq]
  exact congrArg₂ (· + ·) (Finset.sum_congr rfl fun j _ => congrArg₂ (· * ·) (hp b j) (V4_at m c j g)) (V7_at m c g)

/-- Layer 0's states at the steps of point `t`, started from the state at time `32 t`. -/
theorem steps0 (t : Fin cfg0.N) (ht : t.val < 64) (C : Car Ideal) (h : hc0 C.st = (args m c).lay0 (32 * t.val)) :
    ∀ s, s ≤ 32 → hc0 ((insAt m c t).steps C s) = (args m c).lay0 (32 * t.val + s)
  | 0, _ => h
  | s + 1, hs => by
    rw [← Nat.add_assoc, Args.lay0_succ, ← steps0 t ht C h s (by omega), ← xw0_mat m c t ht s (by omega), ← r0_mat m c t]
    exact run_hc0 _ _ _ _

/-- Layer 1's states at the steps of a point that takes over the masked hidden states of the times after `k`, started from the state at time `k`. -/
theorem steps1 (t : Fin cfg0.N) (k : ℕ) (C : Car Ideal) (h : hc1 C.st = (args m c).lay1 k)
    (hp : ∀ (s : Fin 32) b j, C.p (ix4 0 s b j) = ((args m c).lay0 (k + s.val + 1)).h b j * (args m c).m0 b j) :
    ∀ s, s ≤ 32 → hc1 ((insAt m c t).steps C s) = (args m c).lay1 (k + s)
  | 0, _ => h
  | s + 1, hs => by
    rw [← Nat.add_assoc, Args.lay1_succ, ← steps1 t k C h hp s (by omega), ← xw1_mat m c t C.p s (by omega) _ (fun b j => hp ⟨s, by omega⟩ b j), ← r1_mat m c t]
    exact run_hc1 _ _ _ _

/-! ## The grid -/

/-- What the carried state is before point `n`: layer 0 at time `32 n`, layer 1 one chunk behind, and layer 0's last chunk of masked hidden states between them. -/
structure CarIs (n : ℕ) (C : Car Ideal) : Prop where
  l0 : hc0 C.st = (args m c).lay0 (32 * min n 64)
  l1 : hc1 C.st = (args m c).lay1 (32 * (n - 1))
  p : 0 < n → n ≤ 64 → ∀ (s : Fin 32) b j, C.p (ix4 0 s b j) = ((args m c).lay0 (32 * (n - 1) + s.val + 1)).h b j * (args m c).m0 b j

/-- The invariant holds at the start, of zeros. -/
theorem carIs_zero : CarIs m c 0 Car.zero := by
  obtain ⟨h0, c0, h1, c1⟩ := zero_mat
  refine ⟨?_, ?_, fun h => absurd h (by decide)⟩
  · show (⟨_, _⟩ : HC) = ⟨_, _⟩; congr 1
  · show (⟨_, _⟩ : HC) = ⟨_, _⟩; congr 1

/-- Every point keeps the invariant. -/
theorem carIs_next (t : Fin cfg0.N) (C : Car Ideal) (h : CarIs m c t.val C) : CarIs m c (t.val + 1) ((insAt m c t).next t.val C) := by
  have hN : t.val < 65 := t.isLt
  refine ⟨?_, ?_, fun _ hn s b j => ?_⟩
  · by_cases ht : t.val < 64
    · have h0 := h.l0
      rw [Nat.min_eq_left (by omega)] at h0
      have := steps0 m c t ht C h0 32 le_rfl
      rw [Nat.min_eq_left (by omega), Nat.mul_add, ← show _ = (args m c).lay0 (32 * t.val + 32 * 1) from this]
      unfold Ins.next hc0
      simp only [if_pos ht]
    · have h0 := h.l0
      rw [Nat.min_eq_right (by omega)] at h0
      rw [Nat.min_eq_right (by omega), ← h0]
      unfold Ins.next hc0
      simp only [if_neg ht]
  · by_cases ht : 0 < t.val
    · have := steps1 m c t _ C h.l1 (h.p ht (by omega)) 32 le_rfl
      rw [show 32 * (t.val + 1 - 1) = 32 * (t.val - 1) + 32 by omega, ← this]
      unfold Ins.next hc1
      simp only [if_pos ht]
    · have h1 := h.l1
      rw [show 32 * (t.val + 1 - 1) = 32 * (t.val - 1) by omega, ← h1]
      unfold Ins.next hc1
      simp only [if_neg ht]
  · have h0 := h.l0
    rw [Nat.min_eq_left (by omega)] at h0
    have := congrArg HC.h (steps0 m c t (by omega) C h0 (s.val + 1) (by omega))
    show mat ((insAt m c t).steps C (s.val + 1)).h0 b j * (insAt m c t).m0 (ix2 b j) = _
    rw [m0_mat]
    exact congrArg (· * _) (congrFun (congrFun this b) j)

/-- The invariant holds before every point. -/
theorem carIs (n : ℕ) (hn : n ≤ 65) : CarIs m c n (carAt m c n) := by
  induction n with
  | zero => exact carIs_zero m c
  | succ n ih =>
    have := carIs_next m c ⟨n, hn⟩ _ (ih (by omega))
    rwa [← carAt_succ m c ⟨n, hn⟩] at this

/-! ## The result arrays -/

/-- The output block of point `t`, from the second point on: layer 1's masked hidden states of chunk `t - 1`. -/
theorem outAt_at (t : Fin cfg0.N) (ht : 0 < t.val) (b : Fin 64) (s : Fin 32) (j : Fin 256) :
    outAt m c t (ix3 b s j) = ((args m c).lay1 (32 * (t.val - 1) + s.val + 1)).h b j * (args m c).m1 b j := by
  have hN : t.val < 65 := t.isLt
  have h := carIs m c t.val (by omega)
  refine (pay275_at _ b s j).trans ?_
  show mat ((insAt m c t).steps _ (s.val + 1)).h1 b j * (insAt m c t).m1 (ix2 b j) = _
  rw [m1_mat]
  exact congrArg (· * _) (congrFun (congrFun (congrArg HC.h (steps1 m c t _ _ h.l1 (h.p ht (by omega)) (s.val + 1) (by omega))) b) j)

/-- The output array: layer 1's masked hidden state after each time step. -/
def outG : Buf (Elt Ideal) ((c : Thread nD τ).loc main_v8_0) := fun i : S64x2048x256.Idx =>
  ((args m c).lay1 ((i 1).val + 1)).h (i 0) (i 2) * (args m c).m1 (i 0) (i 2)

/-- The final hidden states of the two layers. -/
def hnG : Buf (Elt Ideal) ((c : Thread nD τ).loc main_v8_1) := fun i : S2x64x256.Idx =>
  if (i 0).val = 0 then ((args m c).lay0 2048).h (i 1) (i 2) else ((args m c).lay1 2048).h (i 1) (i 2)

/-- The final cell states of the two layers. -/
def cnG : Buf (Elt Ideal) ((c : Thread nD τ).loc main_v8_2) := fun i : S2x64x256.Idx =>
  if (i 0).val = 0 then ((args m c).lay0 2048).c (i 1) (i 2) else ((args m c).lay1 2048).c (i 1) (i 2)

/-- Point `t` writes the output chunk `t - 1`. -/
theorem index9 : ∀ t : Fin cfg0.N, win0_9.index t (0 : Fin 3) = 0 ∧ win0_9.index t (1 : Fin 3) = t.val - 1 ∧ win0_9.index t (2 : Fin 3) = 0 :=
  (by decide +kernel : ∀ t : Fin grid0.N, _)
/-- The output chunk is written back after every point but the first. -/
theorem flush9 : ∀ t : Fin cfg0.N, (cfg0.win 9).flush t = true ↔ 0 < t.val :=
  (by decide +kernel : ∀ t : Fin grid0.N, win0_9.flush t = true ↔ 0 < t.val)

/-- Each chunk written back is that chunk of the output. -/
theorem flushed9_eq (t : Fin cfg0.N) (hf : (cfg0.win 9).flush t = true) :
    (dats m 0 c).flushed 9 t = ((cfg0.win 9).blk t).view.read (Elt Ideal) (outG m c) := by
  have ht := (flush9 t).1 hf
  obtain ⟨e0, e1, e2⟩ := index9 t
  show (cfg0.win 9).cut (grid0.coords t) ((dats m 0 c).after 9 t) = _
  rw [after0_9]
  funext y
  obtain ⟨b, s, j, rfl⟩ : ∃ (b : Fin 64) (s : Fin 32) (j : Fin 256), y = ix3 b s j := ⟨y 0, y 1, y 2, by funext a; fin_cases a <;> rfl⟩
  refine Eq.trans ?_ ((outAt_at m c t ht b s j).trans ?_)
  · show outAt m c t _ = _
    congr 1
  · show _ = outG m c (((cfg0.win 9).blk t).view.emb (ix3 b s j))
    rw [show ((cfg0.win 9).blk t).view.emb (ix3 b s j) = (ix3 b (⟨32 * (t.val - 1) + s.val, by have := t.isLt; have : cfg0.N = 65 := N_0; omega⟩ : Fin 2048) j : S64x2048x256.Idx) from by
      funext a
      apply Fin.ext
      match a with
      | ⟨0, _⟩ => show win0_9.index t (0 : Fin 3) * 64 + 1 * b.val = b.val; rw [e0]; omega
      | ⟨1, _⟩ => show win0_9.index t (1 : Fin 3) * 32 + 1 * s.val = 32 * (t.val - 1) + s.val; rw [e1]; omega
      | ⟨2, _⟩ => show win0_9.index t (2 : Fin 3) * 256 + 1 * j.val = j.val; rw [e2]; omega]
    rfl

/-- Which entries of the output a point's block holds. -/
theorem mem_blk9 (t : Fin cfg0.N) (i : S64x2048x256.Idx) :
    i ∈ ((cfg0.win 9).blk t).view.set ↔ ∀ a : Fin 3, win0_9.index t a * S64x32x256.size a ≤ (i a).val ∧ (i a).val < win0_9.index t a * S64x32x256.size a + S64x32x256.size a := by
  show i ∈ ((View.whole main_v8_0).slice (win0_9.rect t)).set ↔ _
  rw [View.set_slice_whole, Rect.mem_set_unit]
  exact Iff.rfl

/-- The output array after the run. -/
theorem final9 : (dats m 0 c).arrAt 9 cfg0.N = outG m c :=
  (dats m 0 c).arrAt_eq_of_cover 9 _ (fun t hf => flushed9_eq m c t hf) (fun (i : S64x2048x256.Idx) => by
    have h0 : (i 0).val < 64 := (i 0).isLt
    have h1 : (i 1).val < 2048 := (i 1).isLt
    have h2 : (i 2).val < 256 := (i 2).isLt
    refine ⟨⟨(i 1).val / 32 + 1, by show _ < 65; omega⟩, (flush9 _).2 (Nat.succ_pos _), (mem_blk9 _ i).2 ?_⟩
    obtain ⟨e0, e1, e2⟩ := index9 ⟨(i 1).val / 32 + 1, by show _ < 65; omega⟩
    intro a
    match a with
    | ⟨0, _⟩ => show win0_9.index _ (0 : Fin 3) * 64 ≤ (i 0).val ∧ (i 0).val < win0_9.index _ (0 : Fin 3) * 64 + 64; rw [e0]; omega
    | ⟨1, _⟩ => show win0_9.index _ (1 : Fin 3) * 32 ≤ (i 1).val ∧ (i 1).val < win0_9.index _ (1 : Fin 3) * 32 + 32; rw [e1]; dsimp only; omega
    | ⟨2, _⟩ => show win0_9.index _ (2 : Fin 3) * 256 ≤ (i 2).val ∧ (i 2).val < win0_9.index _ (2 : Fin 3) * 256 + 256; rw [e2]; omega)

/-! The two arrays of final states are one block each, written back after the last point. -/

/-- The final states are one block each. -/
theorem index_fin : ∀ t : Fin cfg0.N, (∀ a : Fin 3, win0_10.index t a = 0) ∧ (∀ a : Fin 3, win0_11.index t a = 0) :=
  (by decide +kernel : ∀ t : Fin grid0.N, _)

/-- The last point. -/
def tLast : Fin cfg0.N := ⟨64, by decide⟩

/-- The one point numbered 64 is the last. -/
theorem eq_last (t : Fin cfg0.N) (h : t.val % 65 = 64) : t = tLast := Fin.ext (by have : t.val < 65 := t.isLt; show t.val = 64; omega)

/-- The final hidden states at the last point. -/
theorem hnAt_last : hnAt m c tLast = hnG m c := by
  have h := carIs m c 65 le_rfl
  funext i
  show (if (i 0).val = 0 then mat (carAt m c 65).st.h0 (i 1) (i 2) else mat (carAt m c 65).st.h1 (i 1) (i 2)) = _
  rw [show mat (carAt m c 65).st.h0 = _ from congrArg HC.h h.l0, show mat (carAt m c 65).st.h1 = _ from congrArg HC.h h.l1]
  rfl

/-- The final cell states at the last point. -/
theorem cnAt_last : cnAt m c tLast = cnG m c := by
  have h := carIs m c 65 le_rfl
  funext i
  show (if (i 0).val = 0 then mat (carAt m c 65).st.c0 (i 1) (i 2) else mat (carAt m c 65).st.c1 (i 1) (i 2)) = _
  rw [show mat (carAt m c 65).st.c0 = _ from congrArg HC.c h.l0, show mat (carAt m c 65).st.c1 = _ from congrArg HC.c h.l1]
  rfl

/-- The array of final hidden states after the run. -/
theorem final10 : (dats m 0 c).arrAt 10 cfg0.N = hnG m c :=
  (dats m 0 c).arrAt_eq_of_cover 10 _ (fun t hf => by
    obtain rfl := eq_last t ((flush0_10 t).1 hf)
    show (cfg0.win 10).cut (grid0.coords tLast) ((dats m 0 c).after 10 tLast) = _
    rw [after0_10, hnAt_last]
    funext y
    exact congrArg (hnG m c) (emb_whole (s := S2x64x256) (win0_10.index tLast) S2x64x256.size y (((cfg0.win 10).blk tLast).view.emb y) (index_fin tLast).1 fun a => rfl).symm)
    (fun (i : S2x64x256.Idx) => ⟨tLast, (flush0_10 _).2 rfl, by
      show i ∈ ((View.whole main_v8_1).slice (win0_10.rect tLast)).set
      rw [View.set_slice_whole, Rect.mem_set_unit]
      intro a
      show win0_10.index tLast a * S2x64x256.size a ≤ (i a).val ∧ (i a).val < win0_10.index tLast a * S2x64x256.size a + S2x64x256.size a
      rw [(index_fin tLast).1 a]
      have := (i a).isLt
      omega⟩)

/-- The array of final cell states after the run. -/
theorem final11 : (dats m 0 c).arrAt 11 cfg0.N = cnG m c :=
  (dats m 0 c).arrAt_eq_of_cover 11 _ (fun t hf => by
    obtain rfl := eq_last t ((flush0_11 t).1 hf)
    show (cfg0.win 11).cut (grid0.coords tLast) ((dats m 0 c).after 11 tLast) = _
    rw [after0_11, cnAt_last]
    funext y
    exact congrArg (cnG m c) (emb_whole (s := S2x64x256) (win0_11.index tLast) S2x64x256.size y (((cfg0.win 11).blk tLast).view.emb y) (index_fin tLast).2 fun a => rfl).symm)
    (fun (i : S2x64x256.Idx) => ⟨tLast, (flush0_11 _).2 rfl, by
      show i ∈ ((View.whole main_v8_2).slice (win0_11.rect tLast)).set
      rw [View.set_slice_whole, Rect.mem_set_unit]
      intro a
      show win0_11.index tLast a * S2x64x256.size a ≤ (i a).val ∧ (i a).val < win0_11.index tLast a * S2x64x256.size a + S2x64x256.size a
      rw [(index_fin tLast).2 a]
      have := (i a).isLt
      omega⟩)

/-- The kernel's run ends with the network's outputs and final states in the three results. -/
theorem run_values (ρ : Dev nD → PrngReg) : θ_run defs (onTc (τ := τ) (main (F := Ideal))) ⟨m, fun _ => 0, ρ⟩ fun r => ∀ c : Dev nD,
    r.2.mem ((c : Thread nD τ).loc main_v8_0) = outG m c ∧ r.2.mem ((c : Thread nD τ).loc main_v8_1) = hnG m c ∧ r.2.mem ((c : Thread nD τ).loc main_v8_2) = cnG m c :=
  (θ_run defs _ _).mono (fun r h c => ⟨((h c).1 9).trans (final9 m c), ((h c).1 10).trans (final10 m c), ((h c).1 11).trans (final11 m c)⟩) (run_main m ρ)

end Cert.KernelIdeal.Body

end
-- ==== Proof.TwoLoops.lean ====
/-
  The run of a host program with two counted loops, one after the other, between stretches of host operations: every
  buffer ends at the fold of the operations, each loop's body taken as often as the loop runs.
-/
module

public import Idealize.ShloMosaic.Lib.StableHlo.RunLoop

@[expose] public section

noncomputable section

namespace Cert.TwoLoops

open Idealize.ShloMosaic Idealize.ShloMosaic.TcCoe Idealize.ShloMosaic.StableHlo Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs)

variable {nD : Nat} {τ : Topo} {sig : RefSig} {F : FTy → Type} {Λ₀ : Idealize.SL.Sem.Labels} {nL : Nat}

/-- A loop of the program: its label, its two regions, and the operations each runs. -/
structure Loop (pcs : Fin 0 → PCfg sig Λ₀ (Elt F)) (loops : Fin nL → Prog (TpuEff nD τ sig (Elt F) (HostLoop.Sig (Pipeline.Sig Λ₀ (Fin 0) fun p => (pcs p).Adm) nL) .tc) PUnit) where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  step : loops l = HostLoop.step l cond body
  condOps : List (HloOp τ sig (Elt F))
  bodyI : List (List (HloOp τ sig (Elt F)))
  plain : Plain bodyI
  chain : body = Pipeline.chain (bodyI.map fun ops => (seq ops : Prog _ PUnit))
  n : ℕ

variable {pcs : Fin 0 → PCfg sig Λ₀ (Elt F)} {loops : Fin nL → Prog (TpuEff nD τ sig (Elt F) (HostLoop.Sig (Pipeline.Sig Λ₀ (Fin 0) fun p => (pcs p).Adm) nL) .tc) PUnit}

/-- The buffers a loop entered at `W` leaves. -/
def Loop.exit (A : Loop pcs loops) (W : Dev nD → Valuation τ sig (Elt F)) (c : Dev nD) : Valuation τ sig (Elt F) :=
  after A.condOps (atTrip A.condOps A.bodyI W A.n c)

/-- What is carried beside the buffers: the core owes nothing. -/
abbrev Owes (c : Dev nD) : sProp (MT nD τ sig Unit (Elt F) ℕ (Option PUnit) ℕ) := iprop(∃ W, owes (c : Thread nD τ) (0 : CellTallies nD τ sig Unit) W)

/-- What is asked of a loop entered at `W`: its condition holds exactly before the first `n` trips. -/
abbrev Loop.Counts (A : Loop pcs loops) (defs₀ : Defs nD τ sig (Elt F) Λ₀) (W : Dev nD → Valuation τ sig (Elt F)) : Prop :=
  LoopCond pcs defs₀ Variants.none loops Owes A.cond A.condOps A.bodyI W A.n

/-- There is no pipeline to admit. -/
abbrev noAdm (p : Fin 0) : (pcs p).Adm := p.elim0
/-- There is no ticket. -/
abbrev noTicket (j : Fin 0) : Ticket (Ix := Unit) (Name := ℕ) (U := Option PUnit) (Lvl := ℕ) (nD := nD) (τ := τ) pcs noAdm := j.elim0

variable {A B : Loop pcs loops} {defs₀ : Defs nD τ sig (Elt F) Λ₀} {preI midI postI : List (List (HloOp τ sig (Elt F)))}
  {m : (ℓ : Loc nD τ sig) → Buf (Elt F) ℓ}

/-- The buffers the second loop is entered at. -/
abbrev entry (A : Loop pcs loops) (preI midI : List (List (HloOp τ sig (Elt F)))) (m : (ℓ : Loc nD τ sig) → Buf (Elt F) ℓ) (c : Dev nD) : Valuation τ sig (Elt F) :=
  afterL midI (A.exit (entryContents preI m) c)

/-- The buffers at the program's end. -/
abbrev final (A B : Loop pcs loops) (preI midI postI : List (List (HloOp τ sig (Elt F)))) (m : (ℓ : Loc nD τ sig) → Buf (Elt F) ℓ) (c : Dev nD) : Valuation τ sig (Elt F) :=
  afterL postI (B.exit (entry A preI midI m) c)

/-- A loop as one segment. -/
abbrev Loop.seg (A : Loop pcs loops) (W : Dev nD → Valuation τ sig (Elt F)) (h : A.Counts defs₀ W) :
    CSeg pcs noAdm defs₀ Variants.none (fun _ : GSem nD τ sig => (∅ : Finset Unit)) (fun _ _ => (0 : ℕ)) loops noTicket :=
  loopSeg _ _ _ _ _ _ _ _ A.l A.cond A.body A.step A.condOps A.bodyI A.plain A.chain A.n W Owes h

/-- The program as segments. -/
def segs (hpre : Plain preI) (hmid : Plain midI) (hpost : Plain postI) (hA : A.Counts defs₀ (entryContents preI m)) (hB : B.Counts defs₀ (entry A preI midI m)) :
    List (CSeg pcs noAdm defs₀ Variants.none (fun _ : GSem nD τ sig => (∅ : Finset Unit)) (fun _ _ => (0 : ℕ)) loops noTicket) :=
  segsOf _ _ _ _ _ _ _ _ Owes preI hpre (launchContents m)
    ++ A.seg _ hA :: (segsOf _ _ _ _ _ _ _ _ Owes midI hmid (A.exit (entryContents preI m))
    ++ B.seg _ hB :: segsOf _ _ _ _ _ _ _ _ Owes postI hpost (B.exit (entry A preI midI m)))

/-- The segments' programs in order are the whole program. -/
theorem segs_prog (hpre : Plain preI) (hmid : Plain midI) (hpost : Plain postI) (hA : A.Counts defs₀ (entryContents preI m)) (hB : B.Counts defs₀ (entry A preI midI m)) :
    (segs hpre hmid hpost hA hB).map CSeg.prog = (preI.map fun ops => (seq ops : Prog _ PUnit)) ++ HostLoop.enter A.l :: ((midI.map fun ops => (seq ops : Prog _ PUnit))
      ++ HostLoop.enter B.l :: postI.map fun ops => (seq ops : Prog _ PUnit)) := by
  unfold segs
  rw [List.map_append, List.map_cons, List.map_append, List.map_cons, segsOf_prog, segsOf_prog, segsOf_prog]
  rfl

/-- Each segment ends with what the next one starts from. -/
theorem segs_chains (hpre : Plain preI) (hmid : Plain midI) (hpost : Plain postI) (hA : A.Counts defs₀ (entryContents preI m)) (hB : B.Counts defs₀ (entry A preI midI m)) :
    CSeg.Chains (fun c => iprop(held (c : Thread nD τ) (ucRefs τ sig) (launchContents m c) ∗ Owes c)) (segs hpre hmid hpost hA hB)
      (fun c => iprop(held (c : Thread nD τ) (ucRefs τ sig) (final A B preI midI postI m c) ∗ Owes c)) := by
  unfold segs
  exact CSeg.Chains.append (segsOf_chains _ _ _ _ _ _ _ _ Owes preI hpre _) ⟨fun _ => .rfl,
    CSeg.Chains.append (segsOf_chains _ _ _ _ _ _ _ _ Owes midI hmid _) ⟨fun _ => .rfl, segsOf_chains _ _ _ _ _ _ _ _ Owes postI hpost _⟩⟩

/-- From any memory with zero counters every weakly fair execution ends with every buffer that is not scoped at `final`. -/
theorem run [∀ e, Nonempty (Elt F e)] (main : Dev nD → Prog (TpuEff nD τ sig (Elt F) (HostLoop.Sig (Pipeline.Sig Λ₀ (Fin 0) fun p => (pcs p).Adm) nL) .tc) PUnit)
    (hpre : Plain preI) (hmid : Plain midI) (hpost : Plain postI) (hA : A.Counts defs₀ (entryContents preI m)) (hB : B.Counts defs₀ (entry A preI midI m))
    (hmain : ∀ c, main c = Pipeline.chain ((preI.map fun ops => (seq ops : Prog _ PUnit)) ++ HostLoop.enter A.l :: ((midI.map fun ops => (seq ops : Prog _ PUnit))
      ++ HostLoop.enter B.l :: postI.map fun ops => (seq ops : Prog _ PUnit)))) (ρ : Dev nD → PrngReg) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final A B preI midI postI m c (Proc.devRef .tc b)) :=
  Pipeline.θ_run_regions_loop_kit (Ix := Unit) (Name := ℕ) (U := Option PUnit) (Lvl := ℕ) (J := Fin 0) (P := Fin 0) (Val := Elt F)
    pcs noAdm (fun k => k.1.elim0) defs₀ Variants.none (fun _ => ∅) (fun _ _ => 0) loops noTicket m ρ main (segs hpre hmid hpost hA hB)
    (fun c Q => by
      rw [hmain c]
      show wp _ _ _ (Pipeline.chain ((segs hpre hmid hpost hA hB).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from
          by rw [BI.bigSep_emp_const])
        iempintro)
    (T₀ := fun c => iprop(held (c : Thread nD τ) (ucRefs τ sig) (launchContents m c) ∗ Owes c))
    (Tₙ := fun c => iprop(held (c : Thread nD τ) (ucRefs τ sig) (final A B preI midI postI m c)))
    (hch := segs_chains hpre hmid hpost hA hB)
    (hinit := by
      refine Pipeline.initEach _ _ fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final A B preI midI postI m c b)
    (hfin := fun c s => by
      unfold held
      iintro ⟨Hh, HS⟩
      ihave Hr := (pointsTo_read_all (ucRefs τ sig) (fun b => ((c : Dev nD), b)) (fun b => final A B preI midI postI m c b) s) $$ [Hh HS]
      · isplitl [Hh] <;> iassumption
      icases Hr with ⟨%h, HS⟩
      imodintro
      isplitr; · ipureintro; exact h
      iexact HS)
    (hQ := fun _ h c b hb => h c _ (devRef_mem_ucRefs b hb))

end Cert.TwoLoops

end
-- ==== Proof.ROps.lean ====
/-
  The operations of the reference, in order: the program's own text as lists, and the program as the chain of them.
-/
module

public import proofs.«01_k».proof.Proof.Gen.ReferenceIdeal
public import proofs.«01_k».proof.Proof.TwoLoops
public import Idealize.ShloMosaic.Lib.StableHlo.RunRead
public import Idealize.ShloMosaic.Lib.Pipeline.Regions

@[expose] public section

set_option maxRecDepth 16384

noncomputable section

namespace Cert.ReferenceIdeal.Run

open Cert.ReferenceIdeal Cert.ReferenceIdeal.Gen Cert.TwoLoops
open Idealize.ShloMosaic Idealize.ShloMosaic.TcCoe Idealize.ShloMosaic.StableHlo
open Idealize.SL Idealize.SL.Sem

variable {F : FTy → Type} [FloatOps F]

/-! ## The operations -/

/-- The operations before the first loop: the input against layer 0's weights, with the biases, and what the loop starts from. -/
abbrev preOps : List (HloOp τ sig (Elt F)) :=
  [ binary main_arg0 main_arg1 main_v0 ((fun l r => Host.dotGeneral dot_S64x2048x128_S1024x128_S64x2048x1024_2_1_01_0_n_n none l r) : FVec F S64x2048x128 .f32 → FVec F S1024x128 .f32 → FVec F S64x2048x1024 .f32),
    unary main_arg3 main_v1 (broadcastInDim S1x1x1024 ![2] bcast_S1024_S1x1x1024_2 : FVec F S1024 .f32 → FVec F S1x1x1024 .f32),
    unary main_v1 main_v2 (broadcastInDim S64x2048x1024 ![0, 1, 2] bcast_S1x1x1024_S64x2048x1024_0_1_2 : FVec F S1x1x1024 .f32 → FVec F S64x2048x1024 .f32),
    binary main_v0 main_v2 main_v3 (addf : FVec F S64x2048x1024 .f32 → FVec F S64x2048x1024 .f32 → FVec F S64x2048x1024 .f32),
    unary main_arg4 main_v4 (broadcastInDim S1x1x1024 ![2] bcast_S1024_S1x1x1024_2 : FVec F S1024 .f32 → FVec F S1x1x1024 .f32),
    unary main_v4 main_v5 (broadcastInDim S64x2048x1024 ![0, 1, 2] bcast_S1x1x1024_S64x2048x1024_0_1_2 : FVec F S1x1x1024 .f32 → FVec F S64x2048x1024 .f32),
    binary main_v3 main_v5 main_v6 (addf : FVec F S64x2048x1024 .f32 → FVec F S64x2048x1024 .f32 → FVec F S64x2048x1024 .f32),
    nullary main_cst (constant S_ .f32 0x00000000#32),
    unary main_cst main_v7 (broadcastInDim S64x256 ![] bcast_S_S64x256 : FVec F S_ .f32 → FVec F S64x256 .f32),
    nullary main_cst_0 (constant S_ .f32 0x00000000#32),
    unary main_cst_0 main_v8 (broadcastInDim S64x256 ![] bcast_S_S64x256 : FVec F S_ .f32 → FVec F S64x256 .f32),
    unary main_v6 main_v9 ((transpose S2048x64x1024 [1, 0, 2] · transposes_S64x2048x1024_S2048x64x1024_1_0_2) : FVec F S64x2048x1024 .f32 → FVec F S2048x64x1024 .f32),
    nullary main_cst_1 (constant S_ .f32 0x00000000#32),
    unary main_cst_1 main_v10 (broadcastInDim S2048x64x256 ![] bcast_S_S2048x64x256 : FVec F S_ .f32 → FVec F S2048x64x256 .f32),
    nullary main_c (constantI S_ 32 0#32),
    unary main_v9 main_v11_0 id,
    unary main_arg2 main_v11_1 id,
    unary main_c main_v11_2 id,
    unary main_v7 main_v11_3 id,
    unary main_v8 main_v11_4 id,
    unary main_v10 main_v11_5 id ]

/-- The operations between the loops: layer 0's hidden states, masked, against layer 1's weights, with the biases, and what the second loop starts from. -/
abbrev midOps : List (HloOp τ sig (Elt F)) :=
  [ unary main_v11_5 main_v12 ((transpose S64x2048x256 [1, 0, 2] · transposes_S2048x64x256_S64x2048x256_1_0_2) : FVec F S2048x64x256 .f32 → FVec F S64x2048x256 .f32),
    unary main_arg9 main_v13 (broadcastInDim S64x1x256 ![0, 2] bcast_S64x256_S64x1x256_0_2 : FVec F S64x256 .f32 → FVec F S64x1x256 .f32),
    unary main_v13 main_v14 (broadcastInDim S64x2048x256 ![0, 1, 2] bcast_S64x1x256_S64x2048x256_0_1_2 : FVec F S64x1x256 .f32 → FVec F S64x2048x256 .f32),
    binary main_v12 main_v14 main_v15 (mulf : FVec F S64x2048x256 .f32 → FVec F S64x2048x256 .f32 → FVec F S64x2048x256 .f32),
    binary main_v15 main_arg5 main_v16 ((fun l r => Host.dotGeneral dot_S64x2048x256_S1024x256_S64x2048x1024_2_1_01_0_n_n none l r) : FVec F S64x2048x256 .f32 → FVec F S1024x256 .f32 → FVec F S64x2048x1024 .f32),
    unary main_arg7 main_v17 (broadcastInDim S1x1x1024 ![2] bcast_S1024_S1x1x1024_2 : FVec F S1024 .f32 → FVec F S1x1x1024 .f32),
    unary main_v17 main_v18 (broadcastInDim S64x2048x1024 ![0, 1, 2] bcast_S1x1x1024_S64x2048x1024_0_1_2 : FVec F S1x1x1024 .f32 → FVec F S64x2048x1024 .f32),
    binary main_v16 main_v18 main_v19 (addf : FVec F S64x2048x1024 .f32 → FVec F S64x2048x1024 .f32 → FVec F S64x2048x1024 .f32),
    unary main_arg8 main_v20 (broadcastInDim S1x1x1024 ![2] bcast_S1024_S1x1x1024_2 : FVec F S1024 .f32 → FVec F S1x1x1024 .f32),
    unary main_v20 main_v21 (broadcastInDim S64x2048x1024 ![0, 1, 2] bcast_S1x1x1024_S64x2048x1024_0_1_2 : FVec F S1x1x1024 .f32 → FVec F S64x2048x1024 .f32),
    binary main_v19 main_v21 main_v22 (addf : FVec F S64x2048x1024 .f32 → FVec F S64x2048x1024 .f32 → FVec F S64x2048x1024 .f32),
    nullary main_cst_2 (constant S_ .f32 0x00000000#32),
    unary main_cst_2 main_v23 (broadcastInDim S64x256 ![] bcast_S_S64x256 : FVec F S_ .f32 → FVec F S64x256 .f32),
    nullary main_cst_3 (constant S_ .f32 0x00000000#32),
    unary main_cst_3 main_v24 (broadcastInDim S64x256 ![] bcast_S_S64x256 : FVec F S_ .f32 → FVec F S64x256 .f32),
    unary main_v22 main_v25 ((transpose S2048x64x1024 [1, 0, 2] · transposes_S64x2048x1024_S2048x64x1024_1_0_2) : FVec F S64x2048x1024 .f32 → FVec F S2048x64x1024 .f32),
    nullary main_cst_4 (constant S_ .f32 0x00000000#32),
    unary main_cst_4 main_v26 (broadcastInDim S2048x64x256 ![] bcast_S_S2048x64x256 : FVec F S_ .f32 → FVec F S2048x64x256 .f32),
    nullary main_c_5 (constantI S_ 32 0#32),
    unary main_v25 main_v27_0 id,
    unary main_arg6 main_v27_1 id,
    unary main_c_5 main_v27_2 id,
    unary main_v23 main_v27_3 id,
    unary main_v24 main_v27_4 id,
    unary main_v26 main_v27_5 id ]

/-- The operations after the loops: layer 1's hidden states, masked, and the final states stacked. -/
abbrev postOps : List (HloOp τ sig (Elt F)) :=
  [ unary main_v27_5 main_v28 ((transpose S64x2048x256 [1, 0, 2] · transposes_S2048x64x256_S64x2048x256_1_0_2) : FVec F S2048x64x256 .f32 → FVec F S64x2048x256 .f32),
    unary main_arg10 main_v29 (broadcastInDim S64x1x256 ![0, 2] bcast_S64x256_S64x1x256_0_2 : FVec F S64x256 .f32 → FVec F S64x1x256 .f32),
    unary main_v29 main_v30 (broadcastInDim S64x2048x256 ![0, 1, 2] bcast_S64x1x256_S64x2048x256_0_1_2 : FVec F S64x1x256 .f32 → FVec F S64x2048x256 .f32),
    binary main_v28 main_v30 main_v31 (mulf : FVec F S64x2048x256 .f32 → FVec F S64x2048x256 .f32 → FVec F S64x2048x256 .f32),
    unary main_v11_3 main_v32 (broadcastInDim S1x64x256 ![1, 2] bcast_S64x256_S1x64x256_1_2 : FVec F S64x256 .f32 → FVec F S1x64x256 .f32),
    unary main_v27_3 main_v33 (broadcastInDim S1x64x256 ![1, 2] bcast_S64x256_S1x64x256_1_2 : FVec F S64x256 .f32 → FVec F S1x64x256 .f32),
    binary main_v32 main_v33 main_v34 ((fun a b => concatenate S2x64x256 0 [⟨S1x64x256, a⟩, ⟨S1x64x256, b⟩] concatenates_S1x64x256_S1x64x256_S2x64x256_d0) : FVec F S1x64x256 .f32 → FVec F S1x64x256 .f32 → FVec F S2x64x256 .f32),
    unary main_v11_4 main_v35 (broadcastInDim S1x64x256 ![1, 2] bcast_S64x256_S1x64x256_1_2 : FVec F S64x256 .f32 → FVec F S1x64x256 .f32),
    unary main_v27_4 main_v36 (broadcastInDim S1x64x256 ![1, 2] bcast_S64x256_S1x64x256_1_2 : FVec F S64x256 .f32 → FVec F S1x64x256 .f32),
    binary main_v35 main_v36 main_v37 ((fun a b => concatenate S2x64x256 0 [⟨S1x64x256, a⟩, ⟨S1x64x256, b⟩] concatenates_S1x64x256_S1x64x256_S2x64x256_d0) : FVec F S1x64x256 .f32 → FVec F S1x64x256 .f32 → FVec F S2x64x256 .f32) ]

/-- The time step's row of layer 0's input. -/
abbrev rowOps0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.unaryIndexed (.of main_v11_0 : TRef sig ⟨S2048x64x1024, .f32⟩) ![(.of main_v11_2 : TRef sig ⟨S_, .i32⟩), (.of main_while0b_call0_c : TRef sig ⟨S_, .i32⟩), (.of main_while0b_call0_c_0 : TRef sig ⟨S_, .i32⟩)] (.of main_while0b_call0_v0 : TRef sig ⟨S1x64x1024, .f32⟩) (fun x i => Host.dynamicSlice S1x64x1024 x (fun k => (i k (Shape.Idx.first h_S_)).toInt) sliceFits_S2048x64x1024_S1x64x1024),
    TRef.reshape (.of main_while0b_call0_v0 : TRef sig ⟨S1x64x1024, .f32⟩) (.of main_while0b_v38 : TRef sig ⟨S64x1024, .f32⟩) (rfl : (.f32 : EltTy) = .f32) shapeCasts_S1x64x1024_S64x1024 ]

/-- The gates of layer 0: the row and the hidden state against the recurrent weights, cut into the four gates. -/
abbrev gateOps0 : List (HloOp τ sig (Elt F)) :=
  [ unary main_v11_1 main_while0b_v39 ((transpose S256x1024 [1, 0] · transposes_S1024x256_S256x1024_1_0) : FVec F S1024x256 .f32 → FVec F S256x1024 .f32),
    binary main_v11_3 main_while0b_v39 main_while0b_v40 ((fun l r => Host.dotGeneral dot_S64x256_S256x1024_S64x1024_1_0_0_1_n_n none l r) : FVec F S64x256 .f32 → FVec F S256x1024 .f32 → FVec F S64x1024 .f32),
    binary main_while0b_v38 main_while0b_v40 main_while0b_v41 (addf : FVec F S64x1024 .f32 → FVec F S64x1024 .f32 → FVec F S64x1024 .f32),
    unary main_while0b_v41 main_while0b_v42 ((extractStridedSlice S64x256 ![0, 0] · slices_S64x1024_S64x256_0_0) : FVec F S64x1024 .f32 → FVec F S64x256 .f32),
    unary main_while0b_v41 main_while0b_v43 ((extractStridedSlice S64x256 ![0, 256] · slices_S64x1024_S64x256_0_256) : FVec F S64x1024 .f32 → FVec F S64x256 .f32),
    unary main_while0b_v41 main_while0b_v44 ((extractStridedSlice S64x256 ![0, 512] · slices_S64x1024_S64x256_0_512) : FVec F S64x1024 .f32 → FVec F S64x256 .f32),
    unary main_while0b_v41 main_while0b_v45 ((extractStridedSlice S64x256 ![0, 768] · slices_S64x1024_S64x256_0_768) : FVec F S64x1024 .f32 → FVec F S64x256 .f32) ]

/-- The new cell state of layer 0. -/
abbrev memOps0 : List (HloOp τ sig (Elt F)) :=
  [ unary main_while0b_v43 main_while0b_v46 (Host.negf : FVec F S64x256 .f32 → FVec F S64x256 .f32),
    unary main_while0b_v46 main_while0b_v47 (Host.exp : FVec F S64x256 .f32 → FVec F S64x256 .f32),
    nullary main_while0b_cst_11 (constant S_ .f32 0x3F800000#32),
    unary main_while0b_cst_11 main_while0b_v48 (broadcastInDim S64x256 ![] bcast_S_S64x256 : FVec F S_ .f32 → FVec F S64x256 .f32),
    binary main_while0b_v48 main_while0b_v47 main_while0b_v49 (addf : FVec F S64x256 .f32 → FVec F S64x256 .f32 → FVec F S64x256 .f32),
    nullary main_while0b_cst_12 (constant S_ .f32 0x3F800000#32),
    unary main_while0b_cst_12 main_while0b_v50 (broadcastInDim S64x256 ![] bcast_S_S64x256 : FVec F S_ .f32 → FVec F S64x256 .f32),
    binary main_while0b_v50 main_while0b_v49 main_while0b_v51 (Host.divf : FVec F S64x256 .f32 → FVec F S64x256 .f32 → FVec F S64x256 .f32),
    binary main_while0b_v51 main_v11_4 main_while0b_v52 (mulf : FVec F S64x256 .f32 → FVec F S64x256 .f32 → FVec F S64x256 .f32),
    unary main_while0b_v42 main_while0b_v53 (Host.negf : FVec F S64x256 .f32 → FVec F S64x256 .f32),
    unary main_while0b_v53 main_while0b_v54 (Host.exp : FVec F S64x256 .f32 → FVec F S64x256 .f32),
    nullary main_while0b_cst_13 (constant S_ .f32 0x3F800000#32),
    unary main_while0b_cst_13 main_while0b_v55 (broadcastInDim S64x256 ![] bcast_S_S64x256 : FVec F S_ .f32 → FVec F S64x256 .f32),
    binary main_while0b_v55 main_while0b_v54 main_while0b_v56 (addf : FVec F S64x256 .f32 → FVec F S64x256 .f32 → FVec F S64x256 .f32),
    nullary main_while0b_cst_14 (constant S_ .f32 0x3F800000#32),
    unary main_while0b_cst_14 main_while0b_v57 (broadcastInDim S64x256 ![] bcast_S_S64x256 : FVec F S_ .f32 → FVec F S64x256 .f32),
    binary main_while0b_v57 main_while0b_v56 main_while0b_v58 (Host.divf : FVec F S64x256 .f32 → FVec F S64x256 .f32 → FVec F S64x256 .f32),
    unary main_while0b_v44 main_while0b_v59 (Host.tanh : FVec F S64x256 .f32 → FVec F S64x256 .f32),
    binary main_while0b_v58 main_while0b_v59 main_while0b_v60 (mulf : FVec F S64x256 .f32 → FVec F S64x256 .f32 → FVec F S64x256 .f32),
    binary main_while0b_v52 main_while0b_v60 main_while0b_v61 (addf : FVec F S64x256 .f32 → FVec F S64x256 .f32 → FVec F S64x256 .f32) ]

/-- The new hidden state of layer 0. -/
abbrev hidOps0 : List (HloOp τ sig (Elt F)) :=
  [ unary main_while0b_v45 main_while0b_v62 (Host.negf : FVec F S64x256 .f32 → FVec F S64x256 .f32),
    unary main_while0b_v62 main_while0b_v63 (Host.exp : FVec F S64x256 .f32 → FVec F S64x256 .f32),
    nullary main_while0b_cst_15 (constant S_ .f32 0x3F800000#32),
    unary main_while0b_cst_15 main_while0b_v64 (broadcastInDim S64x256 ![] bcast_S_S64x256 : FVec F S_ .f32 → FVec F S64x256 .f32),
    binary main_while0b_v64 main_while0b_v63 main_while0b_v65 (addf : FVec F S64x256 .f32 → FVec F S64x256 .f32 → FVec F S64x256 .f32),
    nullary main_while0b_cst_16 (constant S_ .f32 0x3F800000#32),
    unary main_while0b_cst_16 main_while0b_v66 (broadcastInDim S64x256 ![] bcast_S_S64x256 : FVec F S_ .f32 → FVec F S64x256 .f32),
    binary main_while0b_v66 main_while0b_v65 main_while0b_v67 (Host.divf : FVec F S64x256 .f32 → FVec F S64x256 .f32 → FVec F S64x256 .f32),
    unary main_while0b_v61 main_while0b_v68 (Host.tanh : FVec F S64x256 .f32 → FVec F S64x256 .f32),
    binary main_while0b_v67 main_while0b_v68 main_while0b_v69 (mulf : FVec F S64x256 .f32 → FVec F S64x256 .f32 → FVec F S64x256 .f32) ]

/-- The hidden state put into the outputs of layer 0. -/
abbrev putOps0 : List (HloOp τ sig (Elt F)) :=
  [ TRef.unary (.of main_while0b_v69 : TRef sig ⟨S64x256, .f32⟩) (.of main_while0b_call1_v0 : TRef sig ⟨S1x64x256, .f32⟩) (broadcastInDim S1x64x256 ![1, 2] bcast_S64x256_S1x64x256_1_2),
    TRef.nullary (.of main_while0b_call1_c : TRef sig ⟨S_, .i32⟩) (constantI S_ 32 0#32),
    TRef.nullary (.of main_while0b_call1_c_0 : TRef sig ⟨S_, .i32⟩) (constantI S_ 32 0#32),
    TRef.binaryIndexed (.of main_v11_5 : TRef sig ⟨S2048x64x256, .f32⟩) (.of main_while0b_call1_v0 : TRef sig ⟨S1x64x256, .f32⟩) ![(.of main_v11_2 : TRef sig ⟨S_, .i32⟩), (.of main_while0b_call1_c : TRef sig ⟨S_, .i32⟩), (.of main_while0b_call1_c_0 : TRef sig ⟨S_, .i32⟩)] (.of main_while0b_v70 : TRef sig ⟨S2048x64x256, .f32⟩) (fun x u i => Host.dynamicUpdateSlice x u (fun k => (i k (Shape.Idx.first h_S_)).toInt) updateFits_S2048x64x256_S1x64x256) ]

/-- The counter stepped, and layer 0's states carried on. -/
abbrev nextOps0 : List (HloOp τ sig (Elt F)) :=
  [ nullary main_while0b_c_17 (constantI S_ 32 1#32),
    binary main_v11_2 main_while0b_c_17 main_while0b_v71 (addi : Vec F S_ .i32 → Vec F S_ .i32 → Vec F S_ .i32),
    unary main_while0b_v71 main_v11_2 id,
    unary main_while0b_v69 main_v11_3 id,
    unary main_while0b_v61 main_v11_4 id,
    unary main_while0b_v70 main_v11_5 id ]

/-- Layer 0's loop's condition: the counter against the number of time steps. -/
abbrev condOps0 : List (HloOp τ sig (Elt F)) :=
  [ nullary main_while0c_c_11 (constantI S_ 32 2048#32),
    binary main_v11_2 main_while0c_c_11 main_while0c_v38 (cmpi .slt) ]

/-- The time step's row of layer 1's input. -/
abbrev rowOps1 : List (HloOp τ sig (Elt F)) :=
  [ TRef.nullary (.of main_while1b_call2_c : TRef sig ⟨S_, .i32⟩) (constantI S_ 32 0#32),
    TRef.nullary (.of main_while1b_call2_c_0 : TRef sig ⟨S_, .i32⟩) (constantI S_ 32 0#32),
    TRef.unaryIndexed (.of main_v27_0 : TRef sig ⟨S2048x64x1024, .f32⟩) ![(.of main_v27_2 : TRef sig ⟨S_, .i32⟩), (.of main_while1b_call2_c : TRef sig ⟨S_, .i32⟩), (.of main_while1b_call2_c_0 : TRef sig ⟨S_, .i32⟩)] (.of main_while1b_call2_v0 : TRef sig ⟨S1x64x1024, .f32⟩) (fun x i => Host.dynamicSlice S1x64x1024 x (fun k => (i k (Shape.Idx.first h_S_)).toInt) sliceFits_S2048x64x1024_S1x64x1024),
    TRef.reshape (.of main_while1b_call2_v0 : TRef sig ⟨S1x64x1024, .f32⟩) (.of main_while1b_v38 : TRef sig ⟨S64x1024, .f32⟩) (rfl : (.f32 : EltTy) = .f32) shapeCasts_S1x64x1024_S64x1024 ]

/-- The gates of layer 1: the row and the hidden state against the recurrent weights, cut into the four gates. -/
abbrev gateOps1 : List (HloOp τ sig (Elt F)) :=
  [ unary main_v27_1 main_while1b_v39 ((transpose S256x1024 [1, 0] · transposes_S1024x256_S256x1024_1_0) : FVec F S1024x256 .f32 → FVec F S256x1024 .f32),
    binary main_v27_3 main_while1b_v39 main_while1b_v40 ((fun l r => Host.dotGeneral dot_S64x256_S256x1024_S64x1024_1_0_0_1_n_n none l r) : FVec F S64x256 .f32 → FVec F S256x1024 .f32 → FVec F S64x1024 .f32),
    binary main_while1b_v38 main_while1b_v40 main_while1b_v41 (addf : FVec F S64x1024 .f32 → FVec F S64x1024 .f32 → FVec F S64x1024 .f32),
    unary main_while1b_v41 main_while1b_v42 ((extractStridedSlice S64x256 ![0, 0] · slices_S64x1024_S64x256_0_0) : FVec F S64x1024 .f32 → FVec F S64x256 .f32),
    unary main_while1b_v41 main_while1b_v43 ((extractStridedSlice S64x256 ![0, 256] · slices_S64x1024_S64x256_0_256) : FVec F S64x1024 .f32 → FVec F S64x256 .f32),
    unary main_while1b_v41 main_while1b_v44 ((extractStridedSlice S64x256 ![0, 512] · slices_S64x1024_S64x256_0_512) : FVec F S64x1024 .f32 → FVec F S64x256 .f32),
    unary main_while1b_v41 main_while1b_v45 ((extractStridedSlice S64x256 ![0, 768] · slices_S64x1024_S64x256_0_768) : FVec F S64x1024 .f32 → FVec F S64x256 .f32) ]

/-- The new cell state of layer 1. -/
abbrev memOps1 : List (HloOp τ sig (Elt F)) :=
  [ unary main_while1b_v43 main_while1b_v46 (Host.negf : FVec F S64x256 .f32 → FVec F S64x256 .f32),
    unary main_while1b_v46 main_while1b_v47 (Host.exp : FVec F S64x256 .f32 → FVec F S64x256 .f32),
    nullary main_while1b_cst_11 (constant S_ .f32 0x3F800000#32),
    unary main_while1b_cst_11 main_while1b_v48 (broadcastInDim S64x256 ![] bcast_S_S64x256 : FVec F S_ .f32 → FVec F S64x256 .f32),
    binary main_while1b_v48 main_while1b_v47 main_while1b_v49 (addf : FVec F S64x256 .f32 → FVec F S64x256 .f32 → FVec F S64x256 .f32),
    nullary main_while1b_cst_12 (constant S_ .f32 0x3F800000#32),
    unary main_while1b_cst_12 main_while1b_v50 (broadcastInDim S64x256 ![] bcast_S_S64x256 : FVec F S_ .f32 → FVec F S64x256 .f32),
    binary main_while1b_v50 main_while1b_v49 main_while1b_v51 (Host.divf : FVec F S64x256 .f32 → FVec F S64x256 .f32 → FVec F S64x256 .f32),
    binary main_while1b_v51 main_v27_4 main_while1b_v52 (mulf : FVec F S64x256 .f32 → FVec F S64x256 .f32 → FVec F S64x256 .f32),
    unary main_while1b_v42 main_while1b_v53 (Host.negf : FVec F S64x256 .f32 → FVec F S64x256 .f32),
    unary main_while1b_v53 main_while1b_v54 (Host.exp : FVec F S64x256 .f32 → FVec F S64x256 .f32),
    nullary main_while1b_cst_13 (constant S_ .f32 0x3F800000#32),
    unary main_while1b_cst_13 main_while1b_v55 (broadcastInDim S64x256 ![] bcast_S_S64x256 : FVec F S_ .f32 → FVec F S64x256 .f32),
    binary main_while1b_v55 main_while1b_v54 main_while1b_v56 (addf : FVec F S64x256 .f32 → FVec F S64x256 .f32 → FVec F S64x256 .f32),
    nullary main_while1b_cst_14 (constant S_ .f32 0x3F800000#32),
    unary main_while1b_cst_14 main_while1b_v57 (broadcastInDim S64x256 ![] bcast_S_S64x256 : FVec F S_ .f32 → FVec F S64x256 .f32),
    binary main_while1b_v57 main_while1b_v56 main_while1b_v58 (Host.divf : FVec F S64x256 .f32 → FVec F S64x256 .f32 → FVec F S64x256 .f32),
    unary main_while1b_v44 main_while1b_v59 (Host.tanh : FVec F S64x256 .f32 → FVec F S64x256 .f32),
    binary main_while1b_v58 main_while1b_v59 main_while1b_v60 (mulf : FVec F S64x256 .f32 → FVec F S64x256 .f32 → FVec F S64x256 .f32),
    binary main_while1b_v52 main_while1b_v60 main_while1b_v61 (addf : FVec F S64x256 .f32 → FVec F S64x256 .f32 → FVec F S64x256 .f32) ]

/-- The new hidden state of layer 1. -/
abbrev hidOps1 : List (HloOp τ sig (Elt F)) :=
  [ unary main_while1b_v45 main_while1b_v62 (Host.negf : FVec F S64x256 .f32 → FVec F S64x256 .f32),
    unary main_while1b_v62 main_while1b_v63 (Host.exp : FVec F S64x256 .f32 → FVec F S64x256 .f32),
    nullary main_while1b_cst_15 (constant S_ .f32 0x3F800000#32),
    unary main_while1b_cst_15 main_while1b_v64 (broadcastInDim S64x256 ![] bcast_S_S64x256 : FVec F S_ .f32 → FVec F S64x256 .f32),
    binary main_while1b_v64 main_while1b_v63 main_while1b_v65 (addf : FVec F S64x256 .f32 → FVec F S64x256 .f32 → FVec F S64x256 .f32),
    nullary main_while1b_cst_16 (constant S_ .f32 0x3F800000#32),
    unary main_while1b_cst_16 main_while1b_v66 (broadcastInDim S64x256 ![] bcast_S_S64x256 : FVec F S_ .f32 → FVec F S64x256 .f32),
    binary main_while1b_v66 main_while1b_v65 main_while1b_v67 (Host.divf : FVec F S64x256 .f32 → FVec F S64x256 .f32 → FVec F S64x256 .f32),
    unary main_while1b_v61 main_while1b_v68 (Host.tanh : FVec F S64x256 .f32 → FVec F S64x256 .f32),
    binary main_while1b_v67 main_while1b_v68 main_while1b_v69 (mulf : FVec F S64x256 .f32 → FVec F S64x256 .f32 → FVec F S64x256 .f32) ]

/-- The hidden state put into the outputs of layer 1. -/
abbrev putOps1 : List (HloOp τ sig (Elt F)) :=
  [ TRef.unary (.of main_while1b_v69 : TRef sig ⟨S64x256, .f32⟩) (.of main_while1b_call3_v0 : TRef sig ⟨S1x64x256, .f32⟩) (broadcastInDim S1x64x256 ![1, 2] bcast_S64x256_S1x64x256_1_2),
    TRef.nullary (.of main_while1b_call3_c : TRef sig ⟨S_, .i32⟩) (constantI S_ 32 0#32),
    TRef.nullary (.of main_while1b_call3_c_0 : TRef sig ⟨S_, .i32⟩) (constantI S_ 32 0#32),
    TRef.binaryIndexed (.of main_v27_5 : TRef sig ⟨S2048x64x256, .f32⟩) (.of main_while1b_call3_v0 : TRef sig ⟨S1x64x256, .f32⟩) ![(.of main_v27_2 : TRef sig ⟨S_, .i32⟩), (.of main_while1b_call3_c : TRef sig ⟨S_, .i32⟩), (.of main_while1b_call3_c_0 : TRef sig ⟨S_, .i32⟩)] (.of main_while1b_v70 : TRef sig ⟨S2048x64x256, .f32⟩) (fun x u i => Host.dynamicUpdateSlice x u (fun k => (i k (Shape.Idx.first h_S_)).toInt) updateFits_S2048x64x256_S1x64x256) ]

/-- The counter stepped, and layer 1's states carried on. -/
abbrev nextOps1 : List (HloOp τ sig (Elt F)) :=
  [ nullary main_while1b_c_17 (constantI S_ 32 1#32),
    binary main_v27_2 main_while1b_c_17 main_while1b_v71 (addi : Vec F S_ .i32 → Vec F S_ .i32 → Vec F S_ .i32),
    unary main_while1b_v71 main_v27_2 id,
    unary main_while1b_v69 main_v27_3 id,
    unary main_while1b_v61 main_v27_4 id,
    unary main_while1b_v70 main_v27_5 id ]

/-- Layer 1's loop's condition: the counter against the number of time steps. -/
abbrev condOps1 : List (HloOp τ sig (Elt F)) :=
  [ nullary main_while1c_c_11 (constantI S_ 32 2048#32),
    binary main_v27_2 main_while1c_c_11 main_while1c_v38 (cmpi .slt) ]

/-! ## The program as the chain of them -/

/-- The program is its stretches and its two loops in turn. -/
theorem main_chain (c : Dev nD) : main (F := F) c = (Pipeline.chain [seq preOps, HostLoop.enter 0, seq midOps, HostLoop.enter 1, seq postOps] : Prog _ PUnit) := by
  rewrite [chain_seq_cons, Pipeline.chain_cons, chain_seq_cons, Pipeline.chain_cons, chain_seq_cons]
  chain_rfl

/-- A trip of layer 0's loop is its stretches in turn. -/
theorem body0_chain : main_while0_body (F := F) = (Pipeline.chain [seq rowOps0, seq gateOps0, seq memOps0, seq hidOps0, seq putOps0, seq nextOps0] : Prog _ PUnit) := by
  rewrite [Pipeline.chain_cons, chain_seq_cons, chain_seq_cons, chain_seq_cons, Pipeline.chain_cons, chain_seq_cons]
  chain_rfl

/-- A trip of layer 1's loop is its stretches in turn. -/
theorem body1_chain : main_while1_body (F := F) = (Pipeline.chain [seq rowOps1, seq gateOps1, seq memOps1, seq hidOps1, seq putOps1, seq nextOps1] : Prog _ PUnit) := by
  rewrite [Pipeline.chain_cons, chain_seq_cons, chain_seq_cons, chain_seq_cons, Pipeline.chain_cons, chain_seq_cons]
  chain_rfl

end Cert.ReferenceIdeal.Run

end
-- ==== Proof.RCell.lean ====
/-
  The reference's operations over the extended reals: one cell, one time step's row of the input products, and one time step's row of the outputs.
-/
module

public import proofs.«01_k».proof.Proof.Gen.ReferenceIdeal
public import proofs.«01_k».proof.Proof.Spec
public import Idealize.ShloMosaic.Lib.Pointwise
public import Idealize.ShloMosaic.Lib.DynamicIndex
public import Idealize.ShloMosaic.Lib.Scf

@[expose] public section

set_option maxRecDepth 16384

noncomputable section

namespace Cert.ReferenceIdeal.Cell

open Cert.ReferenceIdeal Cert.ReferenceIdeal.Gen Cert.Spec
open Idealize.ShloMosaic

/-- The logistic function as the reference's operations write it. -/
def hostSig {F : FTy → Type} [FloatOps F] (x : FVec F S64x256 .f32) : FVec F S64x256 .f32 :=
  Host.divf (broadcastInDim S64x256 ![] bcast_S_S64x256 (constant S_ .f32 0x3F800000#32))
    (addf (broadcastInDim S64x256 ![] bcast_S_S64x256 (constant S_ .f32 0x3F800000#32)) (Host.exp (Host.negf x)))

/-- The new cell state as the reference's operations write it. -/
def hostC {F : FTy → Type} [FloatOps F] (z : FVec F S64x1024 .f32) (c : FVec F S64x256 .f32) : FVec F S64x256 .f32 :=
  addf (mulf (hostSig (extractStridedSlice S64x256 ![0, 256] z slices_S64x1024_S64x256_0_256)) c)
    (mulf (hostSig (extractStridedSlice S64x256 ![0, 0] z slices_S64x1024_S64x256_0_0)) (Host.tanh (extractStridedSlice S64x256 ![0, 512] z slices_S64x1024_S64x256_0_512)))

/-- The new hidden state as the reference's operations write it. -/
def hostH {F : FTy → Type} [FloatOps F] (z : FVec F S64x1024 .f32) (c : FVec F S64x256 .f32) : FVec F S64x256 .f32 :=
  mulf (hostSig (extractStridedSlice S64x256 ![0, 768] z slices_S64x1024_S64x256_0_768)) (Host.tanh c)

/-- A batch-by-hidden vector as a matrix. -/
def mat (v : FVec Ideal S64x256 .f32) : Mat 64 256 := fun b j => v (ix2 b j)
/-- The gates' arguments as a matrix. -/
def matZ (z : FVec Ideal S64x1024 .f32) : Mat 64 1024 := fun b g => z (ix2 b g)
/-- Recurrent weights as a matrix. -/
def matW (w : FVec Ideal S1024x256 .f32) : Mat 1024 256 := fun g j => w (ix2 g j)

/-- The host's sigmoid is the logistic function, entry by entry. -/
theorem hostSig_at (x : FVec Ideal S64x256 .f32) (b : Fin 64) (j : Fin 256) : hostSig x (ix2 b j) = Ideal.logistic (x (ix2 b j)) := by
  pointwise [hostSig, Ideal.logistic]

/-- The cell state that a trip makes is the network's. -/
theorem hostC_mat (z : FVec Ideal S64x1024 .f32) (c : FVec Ideal S64x256 .f32) : mat (hostC z c) = newC (matZ z) (mat c) := by
  funext b j
  refine (congrArg₂ (· + ·) (congrArg (· * c (ix2 b j)) (hostSig_at _ b j)) (congrArg (· * _) (hostSig_at _ b j))).trans ?_
  pointwise [newC, matZ, mat, col]

/-- The hidden state that a trip makes is the network's. -/
theorem hostH_mat (z : FVec Ideal S64x1024 .f32) (c : FVec Ideal S64x256 .f32) : mat (hostH z c) = newH (matZ z) (mat c) := by
  funext b j
  refine (congrArg (· * _) (hostSig_at _ b j)).trans ?_
  pointwise [newH, matZ, mat, col]

/-- The hidden state against the recurrent weights. -/
theorem dot_at (h : FVec Ideal S64x256 .f32) (w : FVec Ideal S1024x256 .f32) (b : Fin 64) (g : Fin 1024) :
    (Host.dotGeneral dot_S64x256_S256x1024_S64x1024_1_0_0_1_n_n none h (transpose S256x1024 [1, 0] w transposes_S1024x256_S256x1024_1_0) : FVec Ideal S64x1024 .f32) (ix2 b g)
      = ∑ j, mat h b j * matW w g j := by
  pointwise [mat, matW]

/-- The counter of a loop that starts at zero and steps by one, read as a number. -/
theorem iv_toInt (k : ℕ) (hk : k < 2 ^ 31) : (Scf.iv 0#32 1#32 k).toInt = k := by
  rw [show Scf.iv 0#32 1#32 k = BitVec.ofNat 32 k by simp [Scf.iv]]
  exact toInt_ofNat_of_lt hk

/-- The starts of a time step's row: the step's number, then zeros. -/
abbrev starts {F : FTy → Type} [FloatOps F] (ctr : (⟨S_, .i32⟩ : BufTy).Contents (Elt F)) : Fin 3 → Int := fun k =>
  (((![ctr, constantI S_ 32 0#32, constantI S_ 32 0#32] : Fin 3 → (⟨S_, .i32⟩ : BufTy).Contents (Elt F))) k (Shape.Idx.first h_S_)).toInt

/-- At counter `k` a trip reads and writes row `k`. -/
theorem starts_eq (k : ℕ) (hk : k < 2 ^ 31) : ∀ a, starts (F := Ideal) (fun _ => Scf.iv 0#32 1#32 k) a = ((![k, 0, 0] : Fin 3 → ℕ) a : Int) := by
  intro a
  fin_cases a
  · exact iv_toInt k hk
  · rfl
  · rfl

/-- Row `k` of the input products. -/
theorem row_at (X : FVec Ideal S2048x64x1024 .f32) (k : ℕ) (hk : k < 2048) (b : Fin 64) (g : Fin 1024) :
    (shapeCast S64x1024 (Host.dynamicSlice S1x64x1024 X (starts (F := Ideal) fun _ => Scf.iv 0#32 1#32 k) sliceFits_S2048x64x1024_S1x64x1024) shapeCasts_S1x64x1024_S64x1024 : FVec Ideal S64x1024 .f32) (ix2 b g)
      = X (ix3 ⟨k, hk⟩ b g) := by
  have hs : S2048x64x1024.Slices (![k, 0, 0] : Fin 3 → ℕ) S1x64x1024 := ⟨rfl, fun a => by
    fin_cases a
    · show k + 1 ≤ 2048; omega
    · show 0 + 64 ≤ 64; omega
    · show 0 + 1024 ≤ 1024; omega⟩
  rw [Host.dynamicSlice_eq_extractStridedSlice S1x64x1024 X _ (![k, 0, 0] : Fin 3 → ℕ) _ hs (starts_eq k (by omega))]
  pointwise

/-- Row `k` of the outputs written: the new row there, the other rows as they were. -/
theorem put_at (Y : FVec Ideal S2048x64x256 .f32) (y : FVec Ideal S64x256 .f32) (k : ℕ) (hk : k < 2048) (t : Fin 2048) (b : Fin 64) (j : Fin 256) :
    (Host.dynamicUpdateSlice Y (broadcastInDim S1x64x256 ![1, 2] bcast_S64x256_S1x64x256_1_2 y) (starts (F := Ideal) fun _ => Scf.iv 0#32 1#32 k)
        updateFits_S2048x64x256_S1x64x256 : FVec Ideal S2048x64x256 .f32) (ix3 t b j)
      = if t.val = k then y (ix2 b j) else Y (ix3 t b j) := by
  have hs : S2048x64x256.Slices (![k, 0, 0] : Fin 3 → ℕ) S1x64x256 := ⟨rfl, fun a => by
    fin_cases a
    · show k + 1 ≤ 2048; omega
    · show 0 + 64 ≤ 64; omega
    · show 0 + 256 ≤ 256; omega⟩
  rw [Host.dynamicUpdateSlice_eq_updateSlice Y _ _ _ (![k, 0, 0] : Fin 3 → ℕ) (fun a => by
    rw [starts_eq k (by omega) a]
    have := hs.2 a
    omega) hs, updateSlice_apply]
  split
  · rename_i h
    have h0 : k ≤ t.val ∧ t.val < k + 1 := h 0
    rw [if_pos (by omega)]
    pointwise
  · rename_i h
    rw [if_neg]
    intro e
    refine h fun a => ?_
    fin_cases a
    · show k ≤ t.val ∧ t.val < k + 1; omega
    · show 0 ≤ b.val ∧ b.val < 0 + 64; omega
    · show 0 ≤ j.val ∧ j.val < 0 + 256; omega

end Cert.ReferenceIdeal.Cell

end
-- ==== Proof.RTrip.lean ====
/-
  One trip of each of the reference's loops: what it makes of the six carried values. Both layers' loops make the same of them.
-/
module

public import proofs.«01_k».proof.Proof.ROps
public import proofs.«01_k».proof.Proof.RCell

@[expose] public section

set_option maxRecDepth 16384

noncomputable section

namespace Cert.ReferenceIdeal.Run

open Cert.ReferenceIdeal Cert.ReferenceIdeal.Gen Cert.ReferenceIdeal.Cell
open Idealize.ShloMosaic Idealize.ShloMosaic.TcCoe Idealize.ShloMosaic.StableHlo

variable {F : FTy → Type} [FloatOps F]

/-- What a layer's loop carries: the input's part of the gates at every time, the recurrent weights, the counter, the hidden and the cell state, the outputs. -/
@[ext] structure Carry (F : FTy → Type) where
  x : (⟨S2048x64x1024, .f32⟩ : BufTy).Contents (Elt F)
  w : (⟨S1024x256, .f32⟩ : BufTy).Contents (Elt F)
  ctr : (⟨S_, .i32⟩ : BufTy).Contents (Elt F)
  h : (⟨S64x256, .f32⟩ : BufTy).Contents (Elt F)
  c : (⟨S64x256, .f32⟩ : BufTy).Contents (Elt F)
  ys : (⟨S2048x64x256, .f32⟩ : BufTy).Contents (Elt F)

/-- The gates' arguments at the counter's time step. -/
def Carry.z (s : Carry F) : FVec F S64x1024 .f32 :=
  addf (shapeCast S64x1024 (Host.dynamicSlice S1x64x1024 s.x (starts s.ctr) sliceFits_S2048x64x1024_S1x64x1024) shapeCasts_S1x64x1024_S64x1024)
    (Host.dotGeneral dot_S64x256_S256x1024_S64x1024_1_0_0_1_n_n none s.h (transpose S256x1024 [1, 0] s.w transposes_S1024x256_S256x1024_1_0))

/-- The carried values after one trip. -/
def Carry.next (s : Carry F) : Carry F where
  x := s.x
  w := s.w
  ctr := addi s.ctr (constantI S_ 32 1#32)
  h := hostH s.z (hostC s.z s.c)
  c := hostC s.z s.c
  ys := Host.dynamicUpdateSlice s.ys (broadcastInDim S1x64x256 ![1, 2] bcast_S64x256_S1x64x256_1_2 (hostH s.z (hostC s.z s.c))) (starts s.ctr) updateFits_S2048x64x256_S1x64x256

/-! ## The stretches of a trip, for either layer -/

/-- The time step's row: layer `l`'s operations. -/
abbrev rowOps : Fin 2 → List (HloOp τ sig (Elt F))
  | 0 => rowOps0
  | 1 => rowOps1
/-- The buffers they write. -/
abbrev rowW : Fin 2 → List (Ref sig .tc)
  | 0 => [main_while0b_call0_c, main_while0b_call0_c_0, main_while0b_call0_v0, main_while0b_v38]
  | 1 => [main_while1b_call2_c, main_while1b_call2_c_0, main_while1b_call2_v0, main_while1b_v38]
/-- What they do not write keeps its contents. -/
theorem row_keep (l : Fin 2) (V : Valuation τ sig (Elt F)) {r : Ref sig .tc} (h : r ∉ rowW l) : after (rowOps l) V (Proc.devRef .tc r) = V (Proc.devRef .tc r) := by
  match l with
  | 0 | 1 => exact after_of_writes_sub _ V (forall_writes_sub_of_map rfl) h

/-- The gates: layer `l`'s operations. -/
abbrev gateOps : Fin 2 → List (HloOp τ sig (Elt F))
  | 0 => gateOps0
  | 1 => gateOps1
/-- The buffers they write. -/
abbrev gateW : Fin 2 → List (Ref sig .tc)
  | 0 => [main_while0b_v39, main_while0b_v40, main_while0b_v41, main_while0b_v42, main_while0b_v43, main_while0b_v44, main_while0b_v45]
  | 1 => [main_while1b_v39, main_while1b_v40, main_while1b_v41, main_while1b_v42, main_while1b_v43, main_while1b_v44, main_while1b_v45]
/-- What they do not write keeps its contents. -/
theorem gate_keep (l : Fin 2) (V : Valuation τ sig (Elt F)) {r : Ref sig .tc} (h : r ∉ gateW l) : after (gateOps l) V (Proc.devRef .tc r) = V (Proc.devRef .tc r) := by
  match l with
  | 0 | 1 => exact after_of_writes_sub _ V (forall_writes_sub_of_map rfl) h

/-- The new cell state: layer `l`'s operations. -/
abbrev memOps : Fin 2 → List (HloOp τ sig (Elt F))
  | 0 => memOps0
  | 1 => memOps1
/-- The buffers they write. -/
abbrev memW : Fin 2 → List (Ref sig .tc)
  | 0 => [main_while0b_v46, main_while0b_v47, main_while0b_cst_11, main_while0b_v48, main_while0b_v49, main_while0b_cst_12, main_while0b_v50, main_while0b_v51, main_while0b_v52, main_while0b_v53, main_while0b_v54, main_while0b_cst_13, main_while0b_v55, main_while0b_v56, main_while0b_cst_14, main_while0b_v57, main_while0b_v58, main_while0b_v59, main_while0b_v60, main_while0b_v61]
  | 1 => [main_while1b_v46, main_while1b_v47, main_while1b_cst_11, main_while1b_v48, main_while1b_v49, main_while1b_cst_12, main_while1b_v50, main_while1b_v51, main_while1b_v52, main_while1b_v53, main_while1b_v54, main_while1b_cst_13, main_while1b_v55, main_while1b_v56, main_while1b_cst_14, main_while1b_v57, main_while1b_v58, main_while1b_v59, main_while1b_v60, main_while1b_v61]
/-- What they do not write keeps its contents. -/
theorem mem_keep (l : Fin 2) (V : Valuation τ sig (Elt F)) {r : Ref sig .tc} (h : r ∉ memW l) : after (memOps l) V (Proc.devRef .tc r) = V (Proc.devRef .tc r) := by
  match l with
  | 0 | 1 => exact after_of_writes_sub _ V (forall_writes_sub_of_map rfl) h

/-- The new hidden state: layer `l`'s operations. -/
abbrev hidOps : Fin 2 → List (HloOp τ sig (Elt F))
  | 0 => hidOps0
  | 1 => hidOps1
/-- The buffers they write. -/
abbrev hidW : Fin 2 → List (Ref sig .tc)
  | 0 => [main_while0b_v62, main_while0b_v63, main_while0b_cst_15, main_while0b_v64, main_while0b_v65, main_while0b_cst_16, main_while0b_v66, main_while0b_v67, main_while0b_v68, main_while0b_v69]
  | 1 => [main_while1b_v62, main_while1b_v63, main_while1b_cst_15, main_while1b_v64, main_while1b_v65, main_while1b_cst_16, main_while1b_v66, main_while1b_v67, main_while1b_v68, main_while1b_v69]
/-- What they do not write keeps its contents. -/
theorem hid_keep (l : Fin 2) (V : Valuation τ sig (Elt F)) {r : Ref sig .tc} (h : r ∉ hidW l) : after (hidOps l) V (Proc.devRef .tc r) = V (Proc.devRef .tc r) := by
  match l with
  | 0 | 1 => exact after_of_writes_sub _ V (forall_writes_sub_of_map rfl) h

/-- The outputs: layer `l`'s operations. -/
abbrev putOps : Fin 2 → List (HloOp τ sig (Elt F))
  | 0 => putOps0
  | 1 => putOps1
/-- The buffers they write. -/
abbrev putW : Fin 2 → List (Ref sig .tc)
  | 0 => [main_while0b_call1_v0, main_while0b_call1_c, main_while0b_call1_c_0, main_while0b_v70]
  | 1 => [main_while1b_call3_v0, main_while1b_call3_c, main_while1b_call3_c_0, main_while1b_v70]
/-- What they do not write keeps its contents. -/
theorem put_keep (l : Fin 2) (V : Valuation τ sig (Elt F)) {r : Ref sig .tc} (h : r ∉ putW l) : after (putOps l) V (Proc.devRef .tc r) = V (Proc.devRef .tc r) := by
  match l with
  | 0 | 1 => exact after_of_writes_sub _ V (forall_writes_sub_of_map rfl) h

/-- The next trip's states: layer `l`'s operations. -/
abbrev nextOps : Fin 2 → List (HloOp τ sig (Elt F))
  | 0 => nextOps0
  | 1 => nextOps1
/-- The buffers they write. -/
abbrev nextW : Fin 2 → List (Ref sig .tc)
  | 0 => [main_while0b_c_17, main_while0b_v71, main_v11_2, main_v11_3, main_v11_4, main_v11_5]
  | 1 => [main_while1b_c_17, main_while1b_v71, main_v27_2, main_v27_3, main_v27_4, main_v27_5]
/-- What they do not write keeps its contents. -/
theorem next_keep (l : Fin 2) (V : Valuation τ sig (Elt F)) {r : Ref sig .tc} (h : r ∉ nextW l) : after (nextOps l) V (Proc.devRef .tc r) = V (Proc.devRef .tc r) := by
  match l with
  | 0 | 1 => exact after_of_writes_sub _ V (forall_writes_sub_of_map rfl) h

/-- The condition: layer `l`'s operations. -/
abbrev condOps : Fin 2 → List (HloOp τ sig (Elt F))
  | 0 => condOps0
  | 1 => condOps1
/-- The buffers they write. -/
abbrev condW : Fin 2 → List (Ref sig .tc)
  | 0 => [main_while0c_c_11, main_while0c_v38]
  | 1 => [main_while1c_c_11, main_while1c_v38]
/-- What they do not write keeps its contents. -/
theorem cond_keep (l : Fin 2) (V : Valuation τ sig (Elt F)) {r : Ref sig .tc} (h : r ∉ condW l) : after (condOps l) V (Proc.devRef .tc r) = V (Proc.devRef .tc r) := by
  match l with
  | 0 | 1 => exact after_of_writes_sub _ V (forall_writes_sub_of_map rfl) h

/-- The stretches of layer `l`'s loop's body. -/
abbrev bodyI (l : Fin 2) : List (List (HloOp τ sig (Elt F))) := [rowOps l, gateOps l, memOps l, hidOps l, putOps l, nextOps l]

/-! ## What the buffers hold -/

/-- What layer `l`'s loop carries, read off the buffers. -/
def carry : Fin 2 → Valuation τ sig (Elt F) → Carry F
  | 0, V => ⟨V (Proc.devRef .tc main_v11_0), V (Proc.devRef .tc main_v11_1), V (Proc.devRef .tc main_v11_2), V (Proc.devRef .tc main_v11_3), V (Proc.devRef .tc main_v11_4), V (Proc.devRef .tc main_v11_5)⟩
  | 1, V => ⟨V (Proc.devRef .tc main_v27_0), V (Proc.devRef .tc main_v27_1), V (Proc.devRef .tc main_v27_2), V (Proc.devRef .tc main_v27_3), V (Proc.devRef .tc main_v27_4), V (Proc.devRef .tc main_v27_5)⟩
/-- The time step's row of layer `l`. -/
def rowR : Fin 2 → Valuation τ sig (Elt F) → FVec F S64x1024 .f32
  | 0, V => V (Proc.devRef .tc main_while0b_v38)
  | 1, V => V (Proc.devRef .tc main_while1b_v38)
/-- The input gate of layer `l`. -/
def inR : Fin 2 → Valuation τ sig (Elt F) → FVec F S64x256 .f32
  | 0, V => V (Proc.devRef .tc main_while0b_v42)
  | 1, V => V (Proc.devRef .tc main_while1b_v42)
/-- The forget gate of layer `l`. -/
def forgetR : Fin 2 → Valuation τ sig (Elt F) → FVec F S64x256 .f32
  | 0, V => V (Proc.devRef .tc main_while0b_v43)
  | 1, V => V (Proc.devRef .tc main_while1b_v43)
/-- The candidate of layer `l`. -/
def candR : Fin 2 → Valuation τ sig (Elt F) → FVec F S64x256 .f32
  | 0, V => V (Proc.devRef .tc main_while0b_v44)
  | 1, V => V (Proc.devRef .tc main_while1b_v44)
/-- The output gate of layer `l`. -/
def outR : Fin 2 → Valuation τ sig (Elt F) → FVec F S64x256 .f32
  | 0, V => V (Proc.devRef .tc main_while0b_v45)
  | 1, V => V (Proc.devRef .tc main_while1b_v45)
/-- The new cell state of layer `l`. -/
def memR : Fin 2 → Valuation τ sig (Elt F) → FVec F S64x256 .f32
  | 0, V => V (Proc.devRef .tc main_while0b_v61)
  | 1, V => V (Proc.devRef .tc main_while1b_v61)
/-- The new hidden state of layer `l`. -/
def hidR : Fin 2 → Valuation τ sig (Elt F) → FVec F S64x256 .f32
  | 0, V => V (Proc.devRef .tc main_while0b_v69)
  | 1, V => V (Proc.devRef .tc main_while1b_v69)
/-- The new outputs of layer `l`. -/
def ysR : Fin 2 → Valuation τ sig (Elt F) → FVec F S2048x64x256 .f32
  | 0, V => V (Proc.devRef .tc main_while0b_v70)
  | 1, V => V (Proc.devRef .tc main_while1b_v70)

/-! ## What each stretch leaves -/

/-- The buffers layer `l`'s loop carries. -/
abbrev carried : Fin 2 → List (Ref sig .tc)
  | 0 => [main_v11_0, main_v11_1, main_v11_2, main_v11_3, main_v11_4, main_v11_5]
  | 1 => [main_v27_0, main_v27_1, main_v27_2, main_v27_3, main_v27_4, main_v27_5]

/-- Contents that agree on the carried buffers carry the same. -/
theorem carry_congr (l : Fin 2) {V V' : Valuation τ sig (Elt F)} (h : ∀ r ∈ carried l, V (Proc.devRef .tc r) = V' (Proc.devRef .tc r)) : carry l V = carry l V' := by
  match l with
  | 0 | 1 => exact Carry.ext (h _ (by decide)) (h _ (by decide)) (h _ (by decide)) (h _ (by decide)) (h _ (by decide)) (h _ (by decide))

section Keeps
variable (l : Fin 2) (V : Valuation τ sig (Elt F))

/-- Reading the time step's row leaves what is carried as it was. -/
theorem carry_row : carry l (after (rowOps l) V) = carry l V :=
  carry_congr l fun r h => row_keep l V ((by decide +kernel : ∀ l, ∀ r ∈ carried l, r ∉ rowW l) l r h)
/-- Making the gates leaves what is carried as it was. -/
theorem carry_gate : carry l (after (gateOps l) V) = carry l V :=
  carry_congr l fun r h => gate_keep l V ((by decide +kernel : ∀ l, ∀ r ∈ carried l, r ∉ gateW l) l r h)
/-- Making the cell state leaves what is carried as it was. -/
theorem carry_mem : carry l (after (memOps l) V) = carry l V :=
  carry_congr l fun r h => mem_keep l V ((by decide +kernel : ∀ l, ∀ r ∈ carried l, r ∉ memW l) l r h)
/-- Making the hidden state leaves what is carried as it was. -/
theorem carry_hid : carry l (after (hidOps l) V) = carry l V :=
  carry_congr l fun r h => hid_keep l V ((by decide +kernel : ∀ l, ∀ r ∈ carried l, r ∉ hidW l) l r h)
/-- Putting the outputs leaves what is carried as it was. -/
theorem carry_put : carry l (after (putOps l) V) = carry l V :=
  carry_congr l fun r h => put_keep l V ((by decide +kernel : ∀ l, ∀ r ∈ carried l, r ∉ putW l) l r h)
/-- The condition leaves what is carried as it was. -/
theorem carry_cond : carry l (after (condOps l) V) = carry l V :=
  carry_congr l fun r h => cond_keep l V ((by decide +kernel : ∀ l, ∀ r ∈ carried l, r ∉ condW l) l r h)
/-- Making the cell state leaves the output gate as it was. -/
theorem out_mem : outR l (after (memOps l) V) = outR l V := by
  match l with
  | 0 => exact mem_keep 0 V (by decide)
  | 1 => exact mem_keep 1 V (by decide)
/-- Making the hidden state leaves the new cell state as it was. -/
theorem mem_hid : memR l (after (hidOps l) V) = memR l V := by
  match l with
  | 0 => exact hid_keep 0 V (by decide)
  | 1 => exact hid_keep 1 V (by decide)
/-- Putting the outputs leaves the new cell state as it was. -/
theorem mem_put : memR l (after (putOps l) V) = memR l V := by
  match l with
  | 0 => exact put_keep 0 V (by decide)
  | 1 => exact put_keep 1 V (by decide)
/-- Putting the outputs leaves the new hidden state as it was. -/
theorem hid_put : hidR l (after (putOps l) V) = hidR l V := by
  match l with
  | 0 => exact put_keep 0 V (by decide)
  | 1 => exact put_keep 1 V (by decide)

end Keeps

section Reads
variable (l : Fin 2) (V : Valuation τ sig (Elt F))

/-- The row is the input's at the counter. -/
theorem row_read : rowR l (after (rowOps l) V) = shapeCast S64x1024 (Host.dynamicSlice S1x64x1024 (carry l V).x (starts (carry l V).ctr) sliceFits_S2048x64x1024_S1x64x1024) shapeCasts_S1x64x1024_S64x1024 := by
  match l with
  | 0 | 1 =>
    simp only [rowR, rowOps]
    after_results_entrywise [cast_eq] <;> rfl

/-- The gates' arguments from the row and what is carried. -/
def zR : FVec F S64x1024 .f32 :=
  addf (rowR l V) (Host.dotGeneral dot_S64x256_S256x1024_S64x1024_1_0_0_1_n_n none (carry l V).h (transpose S256x1024 [1, 0] (carry l V).w transposes_S1024x256_S256x1024_1_0))

/-- The input gate is the first quarter of the gates' arguments. -/
theorem in_read : inR l (after (gateOps l) V) = extractStridedSlice S64x256 ![0, 0] (zR l V) slices_S64x1024_S64x256_0_0 := by
  match l with
  | 0 | 1 =>
    simp only [inR, gateOps]
    after_reads_simp
    rfl
/-- The forget gate is the second quarter. -/
theorem forget_read : forgetR l (after (gateOps l) V) = extractStridedSlice S64x256 ![0, 256] (zR l V) slices_S64x1024_S64x256_0_256 := by
  match l with
  | 0 | 1 =>
    simp only [forgetR, gateOps]
    after_reads_simp
    rfl
/-- The candidate is the third quarter. -/
theorem cand_read : candR l (after (gateOps l) V) = extractStridedSlice S64x256 ![0, 512] (zR l V) slices_S64x1024_S64x256_0_512 := by
  match l with
  | 0 | 1 =>
    simp only [candR, gateOps]
    after_reads_simp
    rfl
/-- The output gate is the last quarter. -/
theorem out_read : outR l (after (gateOps l) V) = extractStridedSlice S64x256 ![0, 768] (zR l V) slices_S64x1024_S64x256_0_768 := by
  match l with
  | 0 | 1 =>
    simp only [outR, gateOps]
    after_reads_simp
    rfl
/-- The new cell state from the gates and the old one. -/
theorem mem_read : memR l (after (memOps l) V) = addf (mulf (hostSig (forgetR l V)) (carry l V).c) (mulf (hostSig (inR l V)) (Host.tanh (candR l V))) := by
  match l with
  | 0 | 1 =>
    simp only [memR, memOps]
    after_reads_simp
    rfl
/-- The new hidden state from the output gate and the new cell state. -/
theorem hid_read : hidR l (after (hidOps l) V) = mulf (hostSig (outR l V)) (Host.tanh (memR l V)) := by
  match l with
  | 0 | 1 =>
    simp only [hidR, hidOps]
    after_reads_simp
    rfl
/-- The new outputs: the hidden state written at the counter. -/
theorem ys_read : ysR l (after (putOps l) V) = Host.dynamicUpdateSlice (carry l V).ys (broadcastInDim S1x64x256 ![1, 2] bcast_S64x256_S1x64x256_1_2 (hidR l V)) (starts (carry l V).ctr) updateFits_S2048x64x256_S1x64x256 := by
  match l with
  | 0 | 1 =>
    simp only [ysR, putOps]
    after_results_entrywise [cast_eq] <;> rfl
/-- The trip's end carries the counter stepped and the new states on. -/
theorem next_read : carry l (after (nextOps l) V) = ⟨(carry l V).x, (carry l V).w, addi (carry l V).ctr (constantI S_ 32 1#32), hidR l V, memR l V, ysR l V⟩ := by
  match l with
  | 0 | 1 =>
    refine Carry.ext ?_ ?_ ?_ ?_ ?_ ?_
    all_goals
      simp only [carry, nextOps]
      after_reads_simp <;> rfl

end Reads

/-- One trip takes what is carried to the next. -/
theorem carry_trip (l : Fin 2) (V : Valuation τ sig (Elt F)) : carry l (afterL (bodyI l) (after (condOps l) V)) = (carry l V).next := by
  simp only [bodyI, afterL_cons, afterL_nil]
  rw [next_read, ys_read, hid_put, mem_put, carry_put, carry_hid, mem_hid, hid_read, out_mem, carry_mem, mem_read, out_read, in_read, forget_read, cand_read, carry_gate]
  simp only [zR, row_read, carry_row, carry_cond]
  rfl

end Cert.ReferenceIdeal.Run

end
-- ==== Proof.RRun.lean ====
/-
  The reference's run: each layer's loop takes 2048 trips, and every buffer ends at the fold of the operations.
-/
module

public import proofs.«01_k».proof.Proof.RTrip
public import Idealize.ShloMosaic.Lib.Scf.ExitTest
public import Idealize.ShloMosaic.Lib.Scf.Counter

@[expose] public section

set_option maxRecDepth 16384

noncomputable section

namespace Cert.ReferenceIdeal.Run

open Cert.ReferenceIdeal Cert.ReferenceIdeal.Gen Cert.ReferenceIdeal.Cell Cert.TwoLoops
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F]

/-! ## The stretches around the loops -/

/-- The buffers written before the loops. -/
abbrev preW : List (Ref sig .tc) := [main_v0, main_v1, main_v2, main_v3, main_v4, main_v5, main_v6, main_cst, main_v7, main_cst_0, main_v8, main_v9, main_cst_1, main_v10, main_c, main_v11_0, main_v11_1, main_v11_2, main_v11_3, main_v11_4, main_v11_5]
/-- A buffer not written before the loops keeps its contents there. -/
theorem pre_keep (V : Valuation τ sig (Elt F)) {r : Ref sig .tc} (h : r ∉ preW) : after preOps V (Proc.devRef .tc r) = V (Proc.devRef .tc r) :=
  after_of_writes_sub _ V (forall_writes_sub_of_map rfl) h
/-- The operations before the loops touch the core's own buffers only and allocate none. -/
theorem pre_plain : Plain [(preOps : List (HloOp τ sig (Elt F)))] :=
  .cons ⟨binary_bufs_sub .., unary_bufs_sub .., unary_bufs_sub .., binary_bufs_sub .., unary_bufs_sub .., unary_bufs_sub .., binary_bufs_sub .., nullary_bufs_sub .., unary_bufs_sub .., nullary_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub ..⟩ (hf := List.forall_iff_forall_mem.mp (forall_fresh_of_map rfl)) .nil

/-- The buffers written between the loops. -/
abbrev midW : List (Ref sig .tc) := [main_v12, main_v13, main_v14, main_v15, main_v16, main_v17, main_v18, main_v19, main_v20, main_v21, main_v22, main_cst_2, main_v23, main_cst_3, main_v24, main_v25, main_cst_4, main_v26, main_c_5, main_v27_0, main_v27_1, main_v27_2, main_v27_3, main_v27_4, main_v27_5]
/-- A buffer not written between the loops keeps its contents there. -/
theorem mid_keep (V : Valuation τ sig (Elt F)) {r : Ref sig .tc} (h : r ∉ midW) : after midOps V (Proc.devRef .tc r) = V (Proc.devRef .tc r) :=
  after_of_writes_sub _ V (forall_writes_sub_of_map rfl) h
/-- The operations between the loops touch the core's own buffers only and allocate none. -/
theorem mid_plain : Plain [(midOps : List (HloOp τ sig (Elt F)))] :=
  .cons ⟨unary_bufs_sub .., unary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., nullary_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub ..⟩ (hf := List.forall_iff_forall_mem.mp (forall_fresh_of_map rfl)) .nil

/-- The buffers written after the loops. -/
abbrev postW : List (Ref sig .tc) := [main_v28, main_v29, main_v30, main_v31, main_v32, main_v33, main_v34, main_v35, main_v36, main_v37]
/-- A buffer not written after the loops keeps its contents there. -/
theorem post_keep (V : Valuation τ sig (Elt F)) {r : Ref sig .tc} (h : r ∉ postW) : after postOps V (Proc.devRef .tc r) = V (Proc.devRef .tc r) :=
  after_of_writes_sub _ V (forall_writes_sub_of_map rfl) h
/-- The operations after the loops touch the core's own buffers only and allocate none. -/
theorem post_plain : Plain [(postOps : List (HloOp τ sig (Elt F)))] :=
  .cons ⟨unary_bufs_sub .., unary_bufs_sub .., unary_bufs_sub .., binary_bufs_sub .., unary_bufs_sub .., unary_bufs_sub .., binary_bufs_sub .., unary_bufs_sub .., unary_bufs_sub .., binary_bufs_sub ..⟩ (hf := List.forall_iff_forall_mem.mp (forall_fresh_of_map rfl)) .nil

/-! ## A loop -/

/-- No operation of a list allocates, checked along the list. -/
theorem fresh {ops : List (HloOp τ sig (Elt F))} (h : ops.map (·.fresh) = ops.map fun _ => ∅) : ∀ op ∈ ops, op.fresh = ∅ :=
  List.forall_iff_forall_mem.mp (forall_fresh_of_map h)

/-- A trip's stretches touch the core's own buffers only and allocate none. -/
theorem body_plain (l : Fin 2) : Plain (bodyI (F := F) l) := by
  match l with
  | 0 | 1 =>
    exact .cons ⟨nullary_bufs_sub .., nullary_bufs_sub .., unaryIndexed_bufs_sub .., reshape_bufs_sub ..⟩ (hf := fresh rfl)
      (.cons ⟨unary_bufs_sub .., binary_bufs_sub .., binary_bufs_sub .., unary_bufs_sub .., unary_bufs_sub .., unary_bufs_sub .., unary_bufs_sub ..⟩ (hf := fresh rfl)
      (.cons ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub ..⟩ (hf := fresh rfl)
      (.cons ⟨unary_bufs_sub .., unary_bufs_sub .., nullary_bufs_sub .., unary_bufs_sub .., binary_bufs_sub .., nullary_bufs_sub .., unary_bufs_sub .., binary_bufs_sub .., unary_bufs_sub .., binary_bufs_sub ..⟩ (hf := fresh rfl)
      (.cons ⟨unary_bufs_sub .., nullary_bufs_sub .., nullary_bufs_sub .., binaryIndexed_bufs_sub ..⟩ (hf := fresh rfl)
      (.cons ⟨nullary_bufs_sub .., binary_bufs_sub .., unary_bufs_sub .., unary_bufs_sub .., unary_bufs_sub .., unary_bufs_sub ..⟩ (hf := fresh rfl)
      (.nil))))))

/-- Layer `l`'s loop. -/
def loop : Fin 2 → Loop (pcfgs (F := F)) loops
  | 0 => ⟨0, main_while0_cond, main_while0_body, rfl, condOps 0, bodyI 0, body_plain 0, body0_chain, 2048⟩
  | 1 => ⟨1, main_while1_cond, main_while1_body, rfl, condOps 1, bodyI 1, body_plain 1, body1_chain, 2048⟩

/-- The buffers before trip `k` of layer `l`'s loop entered at `W`. -/
abbrev atK (l : Fin 2) (W : Dev nD → Valuation τ sig (Elt F)) (k : ℕ) (c : Dev nD) : Valuation τ sig (Elt F) := atTrip (condOps l) (bodyI l) W k c

/-- What is carried before trip `k`. -/
theorem carry_atK (l : Fin 2) (W : Dev nD → Valuation τ sig (Elt F)) (c : Dev nD) : ∀ k, carry l (atK l W k c) = Carry.next^[k] (carry l (W c))
  | 0 => rfl
  | k + 1 => by
    rw [Function.iterate_succ_apply', ← carry_atK l W c k, ← carry_trip]
    rfl

/-- The counter counts from zero. -/
theorem ctr_iter (s : Carry F) (h : s.ctr = constantI S_ 32 0#32) : ∀ k, (Carry.next^[k] s).ctr = fun _ => Scf.iv 0#32 1#32 k
  | 0 => by rw [Function.iterate_zero, id, h, Scf.iv_zero]; rfl
  | k + 1 => by
    rw [Function.iterate_succ_apply', Scf.iv_succ]
    show addi (Carry.next^[k] s).ctr _ = _
    rw [ctr_iter s h k]
    rfl

/-- The counter's buffer of layer `l`. -/
def ctrR : Fin 2 → Valuation τ sig (Elt F) → (⟨S_, .i32⟩ : BufTy).Contents (Elt F)
  | 0, V => V (Proc.devRef .tc main_v11_2)
  | 1, V => V (Proc.devRef .tc main_v27_2)

/-- Before trip `k` of a loop entered with its counter at zero, the counter is `k`. -/
theorem ctrR_atK (l : Fin 2) (W : Dev nD → Valuation τ sig (Elt F)) (c : Dev nD) (h : (carry l (W c)).ctr = constantI S_ 32 0#32) (k : ℕ) :
    ctrR l (atK l W k c) = fun _ => Scf.iv 0#32 1#32 k := by
  rw [← ctr_iter _ h k, ← carry_atK]
  match l with
  | 0 | 1 => rfl

/-- The bound's operation of layer `l`'s loop's condition. -/
abbrev limOp : Fin 2 → HloOp τ sig (Elt F)
  | 0 => nullary main_while0c_c_11 (constantI S_ 32 2048#32)
  | 1 => nullary main_while1c_c_11 (constantI S_ 32 2048#32)
/-- The bound's buffer of layer `l`. -/
def limR : Fin 2 → Valuation τ sig (Elt F) → (⟨S_, .i32⟩ : BufTy).Contents (Elt F)
  | 0, V => V (Proc.devRef .tc main_while0c_c_11)
  | 1, V => V (Proc.devRef .tc main_while1c_c_11)

/-- The comparison holds before the first 2048 trips only. -/
theorem lim_iff (l : Fin 2) (V : Valuation τ sig (Elt F)) (k : ℕ) (hk : k ≤ 2048) (h : ctrR l V = fun _ => Scf.iv 0#32 1#32 k) :
    IntOp.cmpi .slt (ctrR l ((limOp l).result V) HostLoop.idx0) (limR l ((limOp l).result V) HostLoop.idx0) = 1#1 ↔ k < 2048 := by
  have hc : ctrR l ((limOp l).result V) = ctrR l V := by
    match l with
    | 0 | 1 => exact nullary_result_ne _ _ _ _ (by decide)
  have hl : limR l ((limOp l).result V) = constantI S_ 32 2048#32 := by
    match l with
    | 0 | 1 => exact nullary_result ..
  rw [hc, hl, h]
  exact Scf.cmpi_slt_iv_ub_iff (lb := 0#32) (ub := 2048#32) (st := 1#32) (by decide) (show k ≤ Scf.trips 0#32 2048#32 1#32 from hk)

set_option backward.isDefEq.respectTransparency.types false in
/-- A loop entered with its counter at zero takes its 2048 trips. -/
theorem counts (l : Fin 2) (W : Dev nD → Valuation τ sig (Elt F)) (h : ∀ c, (carry l (W c)).ctr = constantI S_ 32 0#32) : (loop l).Counts defs₀ W := by
  match l with
  | 0 | 1 =>
    intro k hk c bd
    have hctr := ctrR_atK _ W c (h c) k
    simp only [loop] at hk ⊢
    first | unfold main_while0_cond | unfold main_while1_cond
    rw [wp_bind]
    iintro ⟨Hb, Hh, HR⟩
    iapply (wp_hlo_within (Variants.lift Variants.none) (c : Thread nD τ) bd Set.univ (sub_ucRefs _ (nullary_bufs_sub ..))) $$ [Hb Hh]
    · isplitl [Hb]; · iexact Hb
      iexact Hh
    iintro ⟨Hb, Hh⟩
    rw [wp_ret]; imodintro
    iapply (wp_hlo_within (Variants.lift Variants.none) (c : Thread nD τ) bd Set.univ (sub_ucRefs _ (binary_bufs_sub ..))) $$ [Hb Hh]
    · isplitl [Hb]; · iexact Hb
      iexact Hh
    iintro ⟨Hb, Hh⟩
    rw [HostLoop.elt_apply, wp_ret]; imodintro
    isplitr
    · ipureintro
      have := lim_iff _ _ k hk hctr
      exact this
    isplitl [Hb]; · iexact Hb
    isplitl [Hh]
    · rw [after_cons, after_cons, after_nil]; iexact Hh
    iexact HR

/-- What a loop leaves: what it holds before its last condition, after that condition. -/
theorem exit_eq (l : Fin 2) (W : Dev nD → Valuation τ sig (Elt F)) (c : Dev nD) : (loop l).exit W c = after (condOps l) (atK l W 2048 c) := by
  match l with
  | 0 | 1 => rfl

/-- What a loop leaves carried. -/
theorem carry_exit (l : Fin 2) (W : Dev nD → Valuation τ sig (Elt F)) (c : Dev nD) : carry l ((loop l).exit W c) = Carry.next^[2048] (carry l (W c)) := by
  rw [exit_eq, carry_cond, carry_atK]

/-- The buffers a loop writes. -/
abbrev loopW (l : Fin 2) : List (Ref sig .tc) := rowW l ++ gateW l ++ memW l ++ hidW l ++ putW l ++ nextW l ++ condW l

/-- What a loop does not write keeps its contents through it. -/
theorem exit_keep (l : Fin 2) (W : Dev nD → Valuation τ sig (Elt F)) (c : Dev nD) {r : Ref sig .tc} (h : r ∉ loopW l) :
    (loop l).exit W c (Proc.devRef .tc r) = W c (Proc.devRef .tc r) := by
  simp only [loopW, List.mem_append, not_or] at h
  obtain ⟨⟨⟨⟨⟨⟨h1, h2⟩, h3⟩, h4⟩, h5⟩, h6⟩, h7⟩ := h
  have hk : ∀ k, atK l W k c (Proc.devRef .tc r) = W c (Proc.devRef .tc r) := fun k => by
    induction k with
    | zero => rfl
    | succ k ih =>
      show afterL (bodyI l) (after (condOps l) (atK l W k c)) _ = _
      simp only [bodyI, afterL_cons, afterL_nil]
      rw [next_keep l _ h6, put_keep l _ h5, hid_keep l _ h4, mem_keep l _ h3, gate_keep l _ h2, row_keep l _ h1, cond_keep l _ h7, ih]
  rw [exit_eq, cond_keep l _ h7, hk]

/-! ## What the loops start from, and the results -/

/-- The input's part of a layer's gates at every time, time first. -/
def rows (y : FVec F S64x2048x1024 .f32) (bi bh : FVec F S1024 .f32) : FVec F S2048x64x1024 .f32 :=
  transpose S2048x64x1024 [1, 0, 2] (addf (addf y
        (broadcastInDim S64x2048x1024 ![0, 1, 2] bcast_S1x1x1024_S64x2048x1024_0_1_2 (broadcastInDim S1x1x1024 ![2] bcast_S1024_S1x1x1024_2 bi)))
      (broadcastInDim S64x2048x1024 ![0, 1, 2] bcast_S1x1x1024_S64x2048x1024_0_1_2 (broadcastInDim S1x1x1024 ![2] bcast_S1024_S1x1x1024_2 bh)))
      transposes_S64x2048x1024_S2048x64x1024_1_0_2

/-- A layer's hidden states, batch first and masked. -/
def masked (ys : FVec F S2048x64x256 .f32) (mask : FVec F S64x256 .f32) : FVec F S64x2048x256 .f32 :=
  mulf (transpose S64x2048x256 [1, 0, 2] ys transposes_S2048x64x256_S64x2048x256_1_0_2)
    (broadcastInDim S64x2048x256 ![0, 1, 2] bcast_S64x1x256_S64x2048x256_0_1_2 (broadcastInDim S64x1x256 ![0, 2] bcast_S64x256_S64x1x256_0_2 mask))

/-- Two states, one above the other. -/
def stack (x y : FVec F S64x256 .f32) : FVec F S2x64x256 .f32 :=
  concatenate S2x64x256 0 [⟨S1x64x256, (broadcastInDim S1x64x256 ![1, 2] bcast_S64x256_S1x64x256_1_2 x)⟩, ⟨S1x64x256, (broadcastInDim S1x64x256 ![1, 2] bcast_S64x256_S1x64x256_1_2 y)⟩] concatenates_S1x64x256_S1x64x256_S2x64x256_d0

/-- What a layer's loop starts from: its input, its recurrent weights, and zeros. -/
def start (x : FVec F S2048x64x1024 .f32) (w : FVec F S1024x256 .f32) : Carry F where
  x := x
  w := w
  ctr := constantI S_ 32 0#32
  h := broadcastInDim S64x256 ![] bcast_S_S64x256 (constant S_ .f32 0x00000000#32)
  c := broadcastInDim S64x256 ![] bcast_S_S64x256 (constant S_ .f32 0x00000000#32)
  ys := broadcastInDim S2048x64x256 ![] bcast_S_S2048x64x256 (constant S_ .f32 0x00000000#32)

/-- What layer 0's loop starts from: the input against its weights, with the biases. -/
theorem carry_pre (V : Valuation τ sig (Elt F)) : carry 0 (after preOps V)
    = start (rows (Host.dotGeneral dot_S64x2048x128_S1024x128_S64x2048x1024_2_1_01_0_n_n none (V (Proc.devRef .tc main_arg0) : FVec F S64x2048x128 .f32) (V (Proc.devRef .tc main_arg1) : FVec F S1024x128 .f32))
        (V (Proc.devRef .tc main_arg3)) (V (Proc.devRef .tc main_arg4))) (V (Proc.devRef .tc main_arg2)) := by
  refine Carry.ext ?_ ?_ ?_ ?_ ?_ ?_
  all_goals
    simp only [carry]
    after_reads_simp
    rfl

/-- What layer 1's loop starts from: layer 0's outputs, masked, against its weights, with the biases. -/
theorem carry_mid (V : Valuation τ sig (Elt F)) : carry 1 (after midOps V)
    = start (rows (Host.dotGeneral dot_S64x2048x256_S1024x256_S64x2048x1024_2_1_01_0_n_n none (masked (V (Proc.devRef .tc main_v11_5)) (V (Proc.devRef .tc main_arg9))) (V (Proc.devRef .tc main_arg5) : FVec F S1024x256 .f32))
        (V (Proc.devRef .tc main_arg7)) (V (Proc.devRef .tc main_arg8))) (V (Proc.devRef .tc main_arg6)) := by
  refine Carry.ext ?_ ?_ ?_ ?_ ?_ ?_
  all_goals
    simp only [carry]
    after_reads_simp
    rfl

/-- The first result: layer 1's hidden states, masked. -/
theorem out_post (V : Valuation τ sig (Elt F)) : after postOps V (Proc.devRef .tc main_v31) = masked (V (Proc.devRef .tc main_v27_5)) (V (Proc.devRef .tc main_arg10)) := by
  after_reads_simp
  rfl
/-- The second result: the two layers' hidden states. -/
theorem hn_post (V : Valuation τ sig (Elt F)) : after postOps V (Proc.devRef .tc main_v34) = stack (V (Proc.devRef .tc main_v11_3)) (V (Proc.devRef .tc main_v27_3)) := by
  after_reads_simp
  rfl
/-- The third result: the two layers' cell states. -/
theorem cn_post (V : Valuation τ sig (Elt F)) : after postOps V (Proc.devRef .tc main_v37) = stack (V (Proc.devRef .tc main_v11_4)) (V (Proc.devRef .tc main_v27_4)) := by
  after_reads_simp
  rfl

/-- The hidden state that layer 0's loop carries is in its buffer. -/
theorem carry0_h (V : Valuation τ sig (Elt F)) : (carry 0 V).h = V (Proc.devRef .tc main_v11_3) := rfl
/-- The cell state that layer 0's loop carries is in its buffer. -/
theorem carry0_c (V : Valuation τ sig (Elt F)) : (carry 0 V).c = V (Proc.devRef .tc main_v11_4) := rfl
/-- The outputs that layer 0's loop carries is in its buffer. -/
theorem carry0_ys (V : Valuation τ sig (Elt F)) : (carry 0 V).ys = V (Proc.devRef .tc main_v11_5) := rfl
/-- The hidden state that layer 1's loop carries is in its buffer. -/
theorem carry1_h (V : Valuation τ sig (Elt F)) : (carry 1 V).h = V (Proc.devRef .tc main_v27_3) := rfl
/-- The cell state that layer 1's loop carries is in its buffer. -/
theorem carry1_c (V : Valuation τ sig (Elt F)) : (carry 1 V).c = V (Proc.devRef .tc main_v27_4) := rfl
/-- The outputs that layer 1's loop carries is in its buffer. -/
theorem carry1_ys (V : Valuation τ sig (Elt F)) : (carry 1 V).ys = V (Proc.devRef .tc main_v27_5) := rfl

/-! ## The run -/

variable (m : (ℓ : Loc nD τ sig) → Buf (Elt F) ℓ) (c : Dev nD)

/-- What layer 0's loop starts from, -/
def s0 : Carry F := carry 0 (after preOps (launchContents m c))
/-- what it leaves, -/
def e0 : Carry F := Carry.next^[2048] (s0 m c)
/-- what layer 1's loop starts from, -/
def s1 : Carry F :=
  start (rows (Host.dotGeneral dot_S64x2048x256_S1024x256_S64x2048x1024_2_1_01_0_n_n none (masked (e0 m c).ys (m ((c.tc : Thread nD τ).loc main_arg9))) (m ((c.tc : Thread nD τ).loc main_arg5) : FVec F S1024x256 .f32))
    (m ((c.tc : Thread nD τ).loc main_arg7)) (m ((c.tc : Thread nD τ).loc main_arg8))) (m ((c.tc : Thread nD τ).loc main_arg6))
/-- and what it leaves. -/
def e1 : Carry F := Carry.next^[2048] (s1 m c)

/-- The program's arguments. -/
abbrev argRefs : List (Ref sig .tc) := [main_arg0, main_arg1, main_arg2, main_arg3, main_arg4, main_arg5, main_arg6, main_arg7, main_arg8, main_arg9, main_arg10]

/-- The buffers layer 0's loop is entered at. -/
def V0 (c : Dev nD) : Valuation τ sig (Elt F) := entryContents [preOps] m c
/-- The buffers layer 0's loop leaves. -/
def V1 (c : Dev nD) : Valuation τ sig (Elt F) := (loop 0).exit (V0 m) c
/-- The buffers layer 1's loop is entered at. -/
def V2 (c : Dev nD) : Valuation τ sig (Elt F) := entry (loop 0) [preOps] [midOps] m c
/-- The buffers layer 1's loop leaves. -/
def V3 (c : Dev nD) : Valuation τ sig (Elt F) := (loop 1).exit (V2 m) c
/-- The buffers at the program's end. -/
def V4 (c : Dev nD) : Valuation τ sig (Elt F) := final (loop 0) (loop 1) [preOps] [midOps] [postOps] m c

/-- The arguments are unchanged after layer 0's loop. -/
theorem arg_V1 {r : Ref sig .tc} (h : r ∈ argRefs) : V1 m c (Proc.devRef .tc r) = m ((c.tc : Thread nD τ).loc r) :=
  (exit_keep 0 _ c ((by decide +kernel : ∀ r ∈ argRefs, r ∉ loopW 0) r h)).trans (pre_keep _ ((by decide +kernel : ∀ r ∈ argRefs, r ∉ preW) r h))

/-- The arguments are unchanged after layer 1's loop. -/
theorem arg_V3 {r : Ref sig .tc} (h : r ∈ argRefs) : V3 m c (Proc.devRef .tc r) = m ((c.tc : Thread nD τ).loc r) :=
  (exit_keep 1 _ c ((by decide +kernel : ∀ r ∈ argRefs, r ∉ loopW 1) r h)).trans
    ((mid_keep _ ((by decide +kernel : ∀ r ∈ argRefs, r ∉ midW) r h)).trans (arg_V1 m c h))

/-- The arguments are unchanged at the end. -/
theorem arg_V4 {r : Ref sig .tc} (h : r ∈ argRefs) : V4 m c (Proc.devRef .tc r) = m ((c.tc : Thread nD τ).loc r) :=
  (post_keep _ ((by decide +kernel : ∀ r ∈ argRefs, r ∉ postW) r h)).trans (arg_V3 m c h)

/-- Layer 0's loop leaves `e0`. -/
theorem carry_V1 : carry 0 (V1 m c) = e0 m c := carry_exit 0 (V0 m) c

/-- The hidden state in its buffer after layer 0's loop. -/
theorem h_V1 : V1 m c (Proc.devRef .tc main_v11_3) = (e0 m c).h := (carry0_h (V1 m c)).symm.trans (congrArg Carry.h (carry_V1 m c))
/-- The cell state in its buffer after layer 0's loop. -/
theorem c_V1 : V1 m c (Proc.devRef .tc main_v11_4) = (e0 m c).c := (carry0_c (V1 m c)).symm.trans (congrArg Carry.c (carry_V1 m c))
/-- The outputs in its buffer after layer 0's loop. -/
theorem ys_V1 : V1 m c (Proc.devRef .tc main_v11_5) = (e0 m c).ys := (carry0_ys (V1 m c)).symm.trans (congrArg Carry.ys (carry_V1 m c))

/-- Layer 1's loop starts from `s1`. -/
theorem carry_V2 : carry 1 (V2 m c) = s1 m c := by
  refine (carry_mid (V1 m c)).trans ?_
  rw [arg_V1 m c (r := main_arg9) (by decide), arg_V1 m c (r := main_arg5) (by decide), arg_V1 m c (r := main_arg7) (by decide),
    arg_V1 m c (r := main_arg8) (by decide), arg_V1 m c (r := main_arg6) (by decide), ys_V1]
  rfl

/-- Layer 1's loop leaves `e1`. -/
theorem carry_V3 : carry 1 (V3 m c) = e1 m c := (carry_exit 1 (V2 m) c).trans (by rw [carry_V2]; rfl)

/-- The hidden state in its buffer after layer 1's loop. -/
theorem h_V3 : V3 m c (Proc.devRef .tc main_v27_3) = (e1 m c).h := (carry1_h (V3 m c)).symm.trans (congrArg Carry.h (carry_V3 m c))
/-- The cell state in its buffer after layer 1's loop. -/
theorem c_V3 : V3 m c (Proc.devRef .tc main_v27_4) = (e1 m c).c := (carry1_c (V3 m c)).symm.trans (congrArg Carry.c (carry_V3 m c))
/-- The outputs in its buffer after layer 1's loop. -/
theorem ys_V3 : V3 m c (Proc.devRef .tc main_v27_5) = (e1 m c).ys := (carry1_ys (V3 m c)).symm.trans (congrArg Carry.ys (carry_V3 m c))

/-- What layer 0's loop leaves is still there after layer 1's. -/
theorem V3_V1 {r : Ref sig .tc} (h : r ∉ loopW 1) (h' : r ∉ midW) : V3 m c (Proc.devRef .tc r) = V1 m c (Proc.devRef .tc r) :=
  (exit_keep 1 _ c h).trans (mid_keep _ h')

/-- Every buffer that is not scoped ends at the fold of the operations. -/
theorem run_fold (ρ : Dev nD → PrngReg) : θ_run (defs (F := F)) (onTc (τ := τ) (main (F := F))) ⟨m, fun _ => 0, ρ⟩
    (fun r => ∀ (c : Dev nD) (b : Ref sig .tc), (Proc.devRef .tc b : DevRef τ sig).isScoped = false → r.2.mem ((c.tc : Thread nD τ).loc b) = V4 m c (Proc.devRef .tc b)) :=
  TwoLoops.run (A := loop 0) (B := loop 1) (defs₀ := defs₀) main pre_plain mid_plain post_plain
    (counts 0 _ fun c => by rw [show carry 0 (entryContents [preOps] m c) = _ from carry_pre _]; rfl)
    (counts 1 _ fun c => by rw [show carry 1 (entry (loop 0) [preOps] [midOps] m c) = _ from carry_V2 m c]; rfl)
    (fun c => by rw [main_chain]; rfl) ρ

/-- The three results, and the arguments unchanged. -/
theorem run (ρ : Dev nD → PrngReg) : θ_run (defs (F := F)) (onTc (τ := τ) (main (F := F))) ⟨m, fun _ => 0, ρ⟩
    (fun r => ∀ c : Dev nD, r.2.mem ((c.tc : Thread nD τ).loc main_v31) = masked (e1 m c).ys (m ((c.tc : Thread nD τ).loc main_arg10))
      ∧ r.2.mem ((c.tc : Thread nD τ).loc main_v34) = stack (e0 m c).h (e1 m c).h
      ∧ r.2.mem ((c.tc : Thread nD τ).loc main_v37) = stack (e0 m c).c (e1 m c).c
      ∧ ∀ a ∈ argRefs, r.2.mem ((c.tc : Thread nD τ).loc a) = m ((c.tc : Thread nD τ).loc a)) := by
  refine (θ_run defs _ _).mono (fun r h c => ⟨?_, ?_, ?_, fun a ha => ?_⟩) (run_fold m ρ)
  · refine (h c main_v31 (by decide)).trans ((out_post (V3 m c)).trans ?_)
    rw [arg_V3 m c (r := main_arg10) (by decide), ys_V3]
  · refine (h c main_v34 (by decide)).trans ((hn_post (V3 m c)).trans ?_)
    rw [V3_V1 m c (r := main_v11_3) (by decide) (by decide), h_V1,
      h_V3]
  · refine (h c main_v37 (by decide)).trans ((cn_post (V3 m c)).trans ?_)
    rw [V3_V1 m c (r := main_v11_4) (by decide) (by decide), c_V1,
      c_V3]
  · exact (h c a ((by decide +kernel : ∀ r ∈ argRefs, (Proc.devRef .tc r : DevRef τ sig).isScoped = false) a ha)).trans (arg_V4 m c ha)

end Cert.ReferenceIdeal.Run

end
-- ==== Proof.RValue.lean ====
/-
  What the reference computes: each loop carries a layer's state of the network, and the three results are the network's outputs and final states.
-/
module

public import proofs.«01_k».proof.Proof.RRun

@[expose] public section

set_option maxRecDepth 16384

noncomputable section

namespace Cert.ReferenceIdeal.Value

open Cert.ReferenceIdeal Cert.ReferenceIdeal.Gen Cert.ReferenceIdeal.Cell Cert.ReferenceIdeal.Run Cert.Spec
open Idealize.ShloMosaic Idealize.ShloMosaic.TcCoe Idealize.ShloMosaic.StableHlo

/-! ## A layer -/

/-- What a loop carries before trip `k`, for the layer with the input's part `X` of the gates and the recurrent weights `w`. -/
structure At (X : ℕ → Mat 64 1024) (w : Mat 1024 256) (k : ℕ) (s : Carry Ideal) : Prop where
  x : ∀ (t : Fin 2048) b g, s.x (ix3 t b g) = X t.val b g
  wh : matW s.w = w
  ctr : s.ctr = fun _ => Scf.iv 0#32 1#32 k
  st : (⟨mat s.h, mat s.c⟩ : HC) = layer X w k
  ys : ∀ (t : Fin 2048) b j, t.val < k → s.ys (ix3 t b j) = (layer X w (t.val + 1)).h b j

section Trip
variable {X : ℕ → Mat 64 1024} {w : Mat 1024 256} {k : ℕ} {s : Carry Ideal} (h : At X w k s) (hk : k < 2048)
include h hk

/-- The gates' arguments are the network's. -/
theorem z_mat : matZ s.z = gates (X k) w (layer X w k).h := by
  funext b g
  rw [← h.st, ← h.wh]
  unfold Carry.z
  rw [h.ctr]
  exact congrArg₂ (· + ·) ((row_at _ k hk b g).trans (h.x ⟨k, hk⟩ b g)) (dot_at _ _ b g)

/-- The new states are the layer's at the next time. -/
theorem s_next : (⟨mat s.next.h, mat s.next.c⟩ : HC) = layer X w (k + 1) := by
  have hc : mat (hostC s.z s.c) = newC (gates (X k) w (layer X w k).h) (layer X w k).c := by
    rw [hostC_mat, z_mat h hk, show mat s.c = _ from congrArg HC.c h.st]
  show (⟨mat (hostH s.z (hostC s.z s.c)), mat (hostC s.z s.c)⟩ : HC) = _
  rw [hostH_mat, z_mat h hk, hc]
  rfl

/-- One trip takes the layer one time step on. -/
theorem at_next : At X w (k + 1) s.next where
  x := h.x
  wh := h.wh
  ctr := by
    rw [Scf.iv_succ]
    show addi s.ctr _ = _
    rw [h.ctr]; rfl
  st := s_next h hk
  ys := fun t b j ht => by
    show (Host.dynamicUpdateSlice s.ys _ (starts s.ctr) updateFits_S2048x64x256_S1x64x256 : FVec Ideal S2048x64x256 .f32) (ix3 t b j) = _
    rw [h.ctr]
    refine (put_at _ _ k hk t b j).trans ?_
    by_cases e : t.val = k
    · rw [if_pos e, e]
      exact congrFun (congrFun (congrArg HC.h (s_next h hk)) b) j
    · rw [if_neg e]
      exact h.ys t b j (by omega)

end Trip

/-- The zero matrix the layers' states start from. -/
theorem zero_mat : mat (broadcastInDim S64x256 ![] bcast_S_S64x256 (constant (F := Ideal) S_ .f32 0x00000000#32)) = fun _ _ => 0 := by
  funext b j; pointwise [mat]

/-- A loop starts at the layer's zero state. -/
theorem at_start {X : ℕ → Mat 64 1024} {w : Mat 1024 256} {x : FVec Ideal S2048x64x1024 .f32} {v : FVec Ideal S1024x256 .f32}
    (hx : ∀ (t : Fin 2048) b g, x (ix3 t b g) = X t.val b g) (hw : matW v = w) : At X w 0 (start x v) where
  x := hx
  wh := hw
  ctr := by rw [Scf.iv_zero]; rfl
  st := congrArg₂ HC.mk zero_mat zero_mat
  ys := fun t b j ht => absurd ht (Nat.not_lt_zero _)

/-- What a loop holds before trip `k`. -/
theorem at_iter {X : ℕ → Mat 64 1024} {w : Mat 1024 256} {s : Carry Ideal} (h : At X w 0 s) : ∀ k ≤ 2048, At X w k (Carry.next^[k] s)
  | 0, _ => h
  | k + 1, hk => by
    rw [Function.iterate_succ_apply']
    exact at_next (at_iter h k (by omega)) (by omega)

/-! ## The inputs' parts of the gates -/

/-- The biases added, and the time put first. -/
theorem rows_at (y : FVec Ideal S64x2048x1024 .f32) (bi bh : FVec Ideal S1024 .f32) (t : Fin 2048) (b : Fin 64) (g : Fin 1024) :
    rows y bi bh (ix3 t b g) = y (ix3 b t g) + (bi (ix1 g) + bh (ix1 g)) := by
  have e : ∀ x y z : EReal, (x + y) + z = x + (y + z) := fun x y z => add_assoc x y z
  refine Eq.trans ?_ (e (y (ix3 b t g)) (bi (ix1 g)) (bh (ix1 g)))
  pointwise [rows]

/-- The input against layer 0's weights. -/
theorem dot0_at (x : FVec Ideal S64x2048x128 .f32) (w : FVec Ideal S1024x128 .f32) (b : Fin 64) (t : Fin 2048) (g : Fin 1024) :
    (Host.dotGeneral dot_S64x2048x128_S1024x128_S64x2048x1024_2_1_01_0_n_n none x w : FVec Ideal S64x2048x1024 .f32) (ix3 b t g) = ∑ i : Fin 128, x (ix3 b t i) * w (ix2 g i) := by
  pointwise

/-- Layer 0's outputs against layer 1's weights. -/
theorem dot1_at (x : FVec Ideal S64x2048x256 .f32) (w : FVec Ideal S1024x256 .f32) (b : Fin 64) (t : Fin 2048) (g : Fin 1024) :
    (Host.dotGeneral dot_S64x2048x256_S1024x256_S64x2048x1024_2_1_01_0_n_n none x w : FVec Ideal S64x2048x1024 .f32) (ix3 b t g) = ∑ j : Fin 256, x (ix3 b t j) * w (ix2 g j) := by
  pointwise

/-- A layer's hidden state at a time, masked. -/
theorem masked_at (ys : FVec Ideal S2048x64x256 .f32) (mask : FVec Ideal S64x256 .f32) (b : Fin 64) (t : Fin 2048) (j : Fin 256) :
    masked ys mask (ix3 b t j) = ys (ix3 t b j) * mask (ix2 b j) := by
  pointwise [masked]

/-- Two states, one above the other: the first is layer 0's and the second layer 1's. -/
theorem stack_at (x y : FVec Ideal S64x256 .f32) (l : Fin 2) (b : Fin 64) (j : Fin 256) : stack x y (ix3 l b j) = if l.val = 0 then mat x b j else mat y b j := by
  match l with
  | 0 => pointwise [stack, mat]
  | 1 => pointwise [stack, mat]

/-! ## The network -/

attribute [local irreducible] e0 e1

variable (m : (ℓ : Loc nD τ sig) → Buf (Elt Ideal) ℓ) (c : Dev nD)

/-- The network's arguments as the reference's memory holds them. -/
def args : Args where
  x b t i := m ((c.tc : Thread nD τ).loc main_arg0) (ix3 b t i)
  wi0 g i := m ((c.tc : Thread nD τ).loc main_arg1) (ix2 g i)
  wh0 g j := m ((c.tc : Thread nD τ).loc main_arg2) (ix2 g j)
  bi0 g := m ((c.tc : Thread nD τ).loc main_arg3) (ix1 g)
  bh0 g := m ((c.tc : Thread nD τ).loc main_arg4) (ix1 g)
  wi1 g j := m ((c.tc : Thread nD τ).loc main_arg5) (ix2 g j)
  wh1 g j := m ((c.tc : Thread nD τ).loc main_arg6) (ix2 g j)
  bi1 g := m ((c.tc : Thread nD τ).loc main_arg7) (ix1 g)
  bh1 g := m ((c.tc : Thread nD τ).loc main_arg8) (ix1 g)
  m0 b j := m ((c.tc : Thread nD τ).loc main_arg9) (ix2 b j)
  m1 b j := m ((c.tc : Thread nD τ).loc main_arg10) (ix2 b j)

/-- Layer 0's loop leaves layer 0's states. -/
theorem at_e0 : At (args m c).in0 (args m c).wh0 2048 (e0 m c) := by
  unfold e0
  refine at_iter ?_ 2048 le_rfl
  rw [show s0 m c = _ from carry_pre _]
  refine at_start (fun t b g => ?_) rfl
  refine (rows_at _ _ _ t b g).trans ?_
  rw [dot0_at]
  unfold Args.in0
  refine congrArg (· + _) (Finset.sum_congr rfl fun i _ => ?_)
  rw [show (⟨t.val % 2048, Nat.mod_lt _ (by decide)⟩ : Fin 2048) = t from Fin.ext (Nat.mod_eq_of_lt t.isLt)]
  rfl

/-- Layer 1's loop leaves layer 1's states. -/
theorem at_e1 : At (fun k => (args m c).in1 ((args m c).lay0 (k + 1)).h) (args m c).wh1 2048 (e1 m c) := by
  unfold e1
  refine at_iter ?_ 2048 le_rfl
  unfold s1
  refine at_start (fun t b g => ?_) rfl
  refine (rows_at _ _ _ t b g).trans ?_
  rw [dot1_at]
  unfold Args.in1
  refine congrArg (· + _) (Finset.sum_congr rfl fun j _ => ?_)
  rw [masked_at, (at_e0 m c).ys t b j t.isLt]
  rfl

/-- Layer 1's hidden state at the time step, masked. -/
theorem out_at (b : Fin 64) (t : Fin 2048) (j : Fin 256) :
    (masked (e1 m c).ys (m ((c.tc : Thread nD τ).loc main_arg10)) : FVec Ideal S64x2048x256 .f32) (ix3 b t j) = ((args m c).lay1 (t.val + 1)).h b j * (args m c).m1 b j := by
  rw [masked_at, (at_e1 m c).ys t b j t.isLt]
  rfl

/-- The hidden states after the last time step. -/
theorem hn_at (l : Fin 2) (b : Fin 64) (j : Fin 256) :
    (stack (e0 m c).h (e1 m c).h : FVec Ideal S2x64x256 .f32) (ix3 l b j) = if l.val = 0 then ((args m c).lay0 2048).h b j else ((args m c).lay1 2048).h b j := by
  refine (stack_at _ _ l b j).trans ?_
  rw [show mat (e0 m c).h = _ from congrArg HC.h (at_e0 m c).st, show mat (e1 m c).h = _ from congrArg HC.h (at_e1 m c).st]
  rfl

/-- The cell states after the last time step. -/
theorem cn_at (l : Fin 2) (b : Fin 64) (j : Fin 256) :
    (stack (e0 m c).c (e1 m c).c : FVec Ideal S2x64x256 .f32) (ix3 l b j) = if l.val = 0 then ((args m c).lay0 2048).c b j else ((args m c).lay1 2048).c b j := by
  refine (stack_at _ _ l b j).trans ?_
  rw [show mat (e0 m c).c = _ from congrArg HC.c (at_e0 m c).st, show mat (e1 m c).c = _ from congrArg HC.c (at_e1 m c).st]
  rfl

end Cert.ReferenceIdeal.Value

end
-- ==== Proof.lean ====
/-
  The claim. The compiled kernel and its idealization print as the same program, so one frame, proved at any values, serves both.
  The idealized kernel and the idealized reference both compute the two-layer network of `Spec`, from the same arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Data
public import proofs.«01_k».proof.Proof.SameText
public import proofs.«01_k».proof.Proof.KValue
public import proofs.«01_k».proof.Proof.RValue
public import Idealize.ShloMosaic.Lib.Claim
public import Idealize.ShloMosaic.Lib.Quiescent

@[expose] public section

set_option maxRecDepth 65536

noncomputable section

namespace Cert.Proof

open Idealize.ShloMosaic Idealize.ShloMosaic.TcCoe Idealize.SL.Sem Cert.Spec

/-- The idealized kernel ends with its arguments unchanged and every semaphore at zero. -/
theorem kernelIdeal_frame : Cert.quiescent_KernelIdeal := fun m g _ => Cert.KernelIdeal.Body.frame_main (F := Ideal) m g

/-- The reference's arguments unchanged, one by one. -/
theorem unchanged {m m' : (ℓ : Loc Cert.ReferenceIdeal.nD Cert.ReferenceIdeal.τ Cert.ReferenceIdeal.sig) → Buf (Elt Ideal) ℓ} {c : Dev Cert.ReferenceIdeal.nD}
    (h : ∀ a ∈ Cert.ReferenceIdeal.Run.argRefs, m ((c.tc : Thread Cert.ReferenceIdeal.nD Cert.ReferenceIdeal.τ).loc a) = m' ((c.tc : Thread Cert.ReferenceIdeal.nD Cert.ReferenceIdeal.τ).loc a)) :
    Cert.ReferenceIdeal.Run.argRefs.Forall fun a => m ((c.tc : Thread Cert.ReferenceIdeal.nD Cert.ReferenceIdeal.τ).loc a) = m' ((c.tc : Thread Cert.ReferenceIdeal.nD Cert.ReferenceIdeal.τ).loc a) :=
  List.forall_iff_forall_mem.mpr h

/-- The reference ends with its arguments unchanged; it has no semaphores. -/
theorem referenceIdeal_frame : Cert.quiescent_ReferenceIdeal := fun m g _ =>
  (θ_run Cert.ReferenceIdeal.defs _ _).mono (fun r h => ⟨fun c => unchanged (h c).2.2.2, sem_eq_zero_of_no_sems (by decide) r.2⟩)
    (Cert.ReferenceIdeal.Run.run (F := Ideal) m g)

/-- The idealized kernel and the reference end with the same three results. -/
theorem algebraic : Cert.algebraic_KernelIdeal_ReferenceIdeal := by
  intro m g m' g' _ hargs
  have ha : ∀ c : Dev Cert.KernelIdeal.nD, Cert.ReferenceIdeal.Value.args m' c = Cert.KernelIdeal.Body.args m c := fun c => by
    obtain ⟨h0, h1, h2, h3, h4, h5, h6, h7, h8, h9, h10⟩ := hargs c
    unfold Cert.ReferenceIdeal.Value.args Cert.KernelIdeal.Body.args
    rw [h0, h1, h2, h3, h4, h5, h6, h7, h8, h9, h10]
  refine ⟨fun c => Cert.KernelIdeal.Body.outG m c, fun c => Cert.KernelIdeal.Body.hnG m c, fun c => Cert.KernelIdeal.Body.cnG m c, ?_, ?_⟩
  · refine (θ_run Cert.KernelIdeal.defs _ _).mono (fun r h c => ?_)
      (θ_run_and (Cert.KernelIdeal.Body.run_values m g) (Cert.KernelIdeal.Body.frame_main (F := Ideal) m g))
    exact ⟨(h.1 c).1, (h.1 c).2.1, (h.1 c).2.2, h.2.1 c⟩
  · refine (θ_run Cert.ReferenceIdeal.defs _ _).mono (fun r h c => ⟨?_, ?_, ?_, unchanged (h c).2.2.2⟩) (Cert.ReferenceIdeal.Run.run (F := Ideal) m' g')
    · refine (h c).1.trans (funext fun i => ?_)
      idx_vars i
      refine (Cert.ReferenceIdeal.Value.out_at m' c _ _ _).trans ?_
      rw [ha]; rfl
    · refine (h c).2.1.trans (funext fun i => ?_)
      idx_vars i
      refine (Cert.ReferenceIdeal.Value.hn_at m' c _ _ _).trans ?_
      rw [ha]; rfl
    · refine (h c).2.2.1.trans (funext fun i => ?_)
      idx_vars i
      refine (Cert.ReferenceIdeal.Value.cn_at m' c _ _ _).trans ?_
      rw [ha]; rfl

/-- All claims of the statement. -/
theorem claim : Cert.Claim := ⟨Cert.Kernel.Gen.facts, Cert.KernelIdeal.Gen.facts, Cert.ReferenceIdeal.Gen.facts,
  Cert.SameText.kernel_frame, kernelIdeal_frame, referenceIdeal_frame, trivial, algebraic⟩

end Cert.Proof

end
